-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1 : Shape := ⟨1, ![1]⟩
abbrev S1024x2048 : Shape := ⟨2, ![1024, 2048]⟩
abbrev S2x1024x1024 : Shape := ⟨3, ![2, 1024, 1024]⟩
abbrev S4x1024x1024 : Shape := ⟨3, ![4, 1024, 1024]⟩
abbrev S2x1024x2048 : Shape := ⟨3, ![2, 1024, 2048]⟩
abbrev S3x1024x1024 : Shape := ⟨3, ![3, 1024, 1024]⟩
abbrev S2 : Shape := ⟨1, ![2]⟩
abbrev S3 : Shape := ⟨1, ![3]⟩
abbrev S_ : Shape := ⟨0, ![]⟩
abbrev S1x1024x1024 : Shape := ⟨3, ![1, 1024, 1024]⟩
abbrev S1024x1024 : Shape := ⟨2, ![1024, 1024]⟩
abbrev S1x1024x2048 : Shape := ⟨3, ![1, 1024, 2048]⟩

abbrev nBuf : Space → Nat
  | .hbm => 5
  | .vmem => 5
  | .smem => 2
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S1024x2048, .f32⟩
  | .local _ .vmem, ⟨1, _⟩ => ⟨S2x1024x1024, .f32⟩
  | .local _ .vmem, ⟨2, _⟩ => ⟨S4x1024x1024, .fp8e4m3⟩
  | .local _ .vmem, ⟨3, _⟩ => ⟨S2x1024x2048, .f32⟩
  | .local _ .vmem, ⟨4, _⟩ => ⟨S3x1024x1024, .fp8e4m3⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c1024_i32 : BitVec 32 := 1024#32
  let v5 : BitVec 32 := Scalar.muli v4 c1024_i32
  let c0_i32_5 : BitVec 32 := 0#32
  ![v5.toNat, 0]
def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v20 : BitVec 32 := Scalar.addi v2 c1_i32_13
  let c4_i32_14 : BitVec 32 := 4#32
  let v21 : BitVec 32 := Scalar.remsi v20 c4_i32_14
  let c1_i32_16 : BitVec 32 := 1#32
  let v22 : BitVec 32 := Scalar.muli v21 c1_i32_16
  let v23 : BitVec 32 := Scalar.addi c0_i32_17 v22
  v23.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v24 : BitVec 32 := Scalar.addi v2 c2_i32
  let c4_i32_18 : BitVec 32 := 4#32
  let v25 : BitVec 32 := Scalar.remsi v24 c4_i32_18
  let c1_i32_20 : BitVec 32 := 1#32
  let v26 : BitVec 32 := Scalar.muli v25 c1_i32_20
  let v27 : BitVec 32 := Scalar.addi c0_i32_21 v26
  v27.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_22 : BitVec 32 := 3#32
  let v28 : BitVec 32 := Scalar.addi v2 c3_i32_22
  let c4_i32_23 : BitVec 32 := 4#32
  let v29 : BitVec 32 := Scalar.remsi v28 c4_i32_23
  let c1_i32_25 : BitVec 32 := 1#32
  let v30 : BitVec 32 := Scalar.muli v29 c1_i32_25
  let v31 : BitVec 32 := Scalar.addi c0_i32_26 v30
  v31.toNat
def k0_off2 (d0 : Dev nD) (c0_i32_49 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.subi v2 c0_i32_49
  let c4_i32_50 : BitVec 32 := 4#32
  let v55 : BitVec 32 := Scalar.addi v54 c4_i32_50
  let c4_i32_51 : BitVec 32 := 4#32
  let v56 : BitVec 32 := Scalar.remsi v55 c4_i32_51
  let c1024_i32_52 : BitVec 32 := 1024#32
  let v57 : BitVec 32 := Scalar.muli v56 c1024_i32_52
  let c0_i32_57 : BitVec 32 := 0#32
  ![v57.toNat, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_58 : BitVec 32 := 1#32
  let v63 : BitVec 32 := Scalar.addi v2 c1_i32_58
  let c4_i32_59 : BitVec 32 := 4#32
  let v64 : BitVec 32 := Scalar.remsi v63 c4_i32_59
  let c1_i32_64 : BitVec 32 := 1#32
  let v65 : BitVec 32 := Scalar.muli v64 c1_i32_64
  let v66 : BitVec 32 := Scalar.addi c0_i32_65 v65
  v66.toNat
def k0_dev5 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_100 : BitVec 32 := 3#32
  let v106 : BitVec 32 := Scalar.addi v2 c3_i32_100
  let c4_i32_101 : BitVec 32 := 4#32
  let v107 : BitVec 32 := Scalar.remsi v106 c4_i32_101
  let c1_i32_106 : BitVec 32 := 1#32
  let v108 : BitVec 32 := Scalar.muli v107 c1_i32_106
  let v109 : BitVec 32 := Scalar.addi c0_i32_107 v108
  v109.toNat
def k0_dev6 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_138 : BitVec 32 := 2#32
  let v146 : BitVec 32 := Scalar.addi v2 c2_i32_138
  let c4_i32_139 : BitVec 32 := 4#32
  let v147 : BitVec 32 := Scalar.remsi v146 c4_i32_139
  let c1_i32_188 : BitVec 32 := 1#32
  let v185 : BitVec 32 := Scalar.muli v147 c1_i32_188
  let v186 : BitVec 32 := Scalar.addi c0_i32_189 v185
  v186.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Slots.lean ====
/-
# Slots of a buffer, each held by its own elements

The kernel works through slots: row `k` of a stack of blocks, sliced out and squeezed. A slot is held by
`owns`: its elements at some contents, read through the slot as a named block. The rules below say what each
operation of the kernel does to a slot so held — a load and a store through the buffer the slot lies in, a
copy from an array into a slot, and the wait that ends the copy.
-/
module

public import Idealize.ShloMosaic.Lib.Memref
public import Idealize.ShloMosaic.Lib.Writes
public import Idealize.ShloMosaic.Lib.Transfers
public import Idealize.ShloMosaic.Lib.Tactic

@[expose] public section

noncomputable section

namespace Cert.Slots

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val ℕ U ℕ

variable {defs : Defs nD τ sig Val Λ} (𝒱 : Variants) (c : Thread nD τ) (bd : Option 𝒱.V)
variable {α : Type}

/-! ## A block under two shapes -/

/-- A block of shape `s'` in the shape `s` it was squeezed from, element for element in row-major order. -/
def unsq {γ : Type} {s s' : Shape} (h : s.Squeezes s') (u : s'.Idx → γ) : s.Idx → γ :=
  fun y => u ((Shape.reshapeEquiv h.numel_eq).symm y)

/-- Squeezing again gives the block back. -/
theorem shapeCast_unsq {γ : Type} {s s' : Shape} (h : s.Squeezes s') (hc : s.ShapeCasts s') (u : s'.Idx → γ) :
    shapeCast s' (unsq h u) hc = u :=
  funext fun j => congrArg u (Equiv.symm_apply_apply (Shape.reshapeEquiv h.numel_eq) j)

/-! ## Loads and stores through the buffer a slot lies in -/

section Access

variable {cs : CoreSpace} {s : Shape} {e : EltTy} {m : Memref sig c.2.kind cs s e} {r : Rect s} {hr : ∀ a, r.stride a = 1}
  {s' : Shape} {hq : r.shape.Squeezes s'}

/-- A load of a slot's rectangle from the buffer reads the slot's block, the leading unit axis put back. -/
theorem load_slot {Q : α → sProp 𝕄} {hl : m.view.LoadsAt r.toLoadRect} {k : (r.shape.Idx → Val e) → Prog (TpuEff nD τ sig Val Λ c.2) α}
    {q : PosShare TreeShare} {u : s'.Idx → Val e} :
    (owns c ((m.slice r hr).squeeze s' hq) q u : sProp 𝕄)
      ⊢ iprop((owns c ((m.slice r hr).squeeze s' hq) q u -∗ wp frame (wpE defs 𝒱 c bd) Set.univ (k (unsq hq u)) Q)
        -∗ wp frame (wpE defs 𝒱 c bd) Set.univ (.op (.load m r.toLoadRect hl) k) Q) := by
  unfold owns
  iintro ⟨%f, %hf, H⟩ Hk
  have hS : (m.access r).set ⊆ ((m.slice r hr).squeeze s' hq).view.set :=
    (View.set_reshape (v := m.access r) hq.numel_eq).symm.subset
  iapply (wp_load_rect 𝒱 c bd Set.univ (r := r) (hl := hl) hS) $$ H
  iintro H
  have hv : (m.access r).read Val f = unsq hq u := by
    subst hf
    funext y
    exact congrArg ((m.access r).read Val f) (Equiv.apply_symm_apply (Shape.reshapeEquiv hq.numel_eq) y).symm
  rw [hv]
  iapply Hk
  iexists f
  isplitr
  · ipureintro; exact hf
  iexact H

/-- A store at a slot's rectangle of the buffer leaves the slot at the stored block, squeezed. -/
theorem store_slot {Q : α → sProp 𝕄} {w : r.shape.Idx → Val e} {hx : (m.access r).Stores Finset.univ}
    {hm : (Finset.univ : Finset r.shape.Idx) = Finset.univ ∨ ∀ a, r.stride a = 1} {k : PUnit → Prog (TpuEff nD τ sig Val Λ c.2) α}
    (hc : r.shape.ShapeCasts s') {u : s'.Idx → Val e} :
    (owns c ((m.slice r hr).squeeze s' hq) fullShare u : sProp 𝕄)
      ⊢ iprop((owns c ((m.slice r hr).squeeze s' hq) fullShare (shapeCast s' w hc) -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  have hS : (m.access r).setOn Finset.univ ⊆ ((m.slice r hr).squeeze s' hq).view.set := by
    rw [View.setOn_univ]; exact (View.set_reshape (v := m.access r) hq.numel_eq).symm.subset
  iapply (wp_store 𝒱 c bd Set.univ (r := r) (hx := hx) (hm := hm) hS) $$ H
  iintro H
  iapply Hk
  iexists _
  isplitr
  · ipureintro
    show (fun y => (m.access r).read Val ((m.access r).write Val f w Finset.univ) (Shape.reshapeEquiv hq.numel_eq y)) = _
    rw [View.read_write_univ]; rfl
  iexact H

end Access

/-! ## A copy from an array into a slot -/

section Copy

variable [CountersIn U] {sp sp' : Space} {s : Shape} {e : EltTy}

/-- A copy in flight on the semaphore `sm`: the flight itself, which delivers the slot at the block the source view reads
    of the array's contents `fs`, and the part of the array the copy doesn't read. -/
def Copying (sm : SemLoc sig) (N : ℕ) (src : Memref sig c.2.kind sp s e) (dst : Memref sig c.2.kind sp' s e)
    (q : PosShare TreeShare) (fs : Buf Val (src.view.loc c)) : sProp 𝕄 :=
  iprop(Transfers.Flight countersEmb c sm () N
      iprop(owns c dst fullShare (src.view.read Val fs) ∗ (src.view.loc c ↦[src.view.set]{q} fs))
    ∗ (src.view.loc c ↦[Finset.univ \ src.view.set]{q} fs))

/-- Issuing a copy: the array at any share, the slot and the semaphore at zero become the copy in flight. -/
theorem copy_start {Q : α → sProp 𝕄} {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {u : s.Idx → Val e} (N : ℕ) (hN : dst.view.amount sm = N) (hN0 : 0 < N) :
    iprop((src.view.loc c ↦{q} fs) ∗ owns c dst fullShare u ∗ semVal (c, sm) 0 : sProp 𝕄)
      ⊢ iprop((Copying c sm N src dst q fs -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  unfold owns
  icases Hd with ⟨%fd, -, Hd⟩
  ihave Hs := ((pointsTo_split_subset (Finset.subset_univ src.view.set)).1) $$ Hs
  icases Hs with ⟨Hs, Hrest⟩
  iapply (Transfers.wp_dmaLocal countersEmb 𝒱 c bd (via := .same) () N hN hN0 (Finset.Subset.refl _)) $$ [Hs Hd Hv]
  · isplitl [Hs]; · iexact Hs
    isplitl [Hd] <;> iassumption
  iintro HF
  iapply Hk
  unfold Copying
  isplitl [HF]
  · iapply (Transfers.Flight_mono countersEmb c ?_) $$ HF
    iintro ⟨Hd, Hs⟩
    isplitl [Hd]
    · unfold owns
      iexists (dst.view.write Val fd (src.view.read Val fs) Finset.univ)
      isplitr
      · ipureintro; exact View.read_write_univ _ _
      iexact Hd
    iexact Hs
  iexact Hrest

/-- Waiting for a copy, owing `O` above its semaphore: the slot holds the block, the array is whole again, the semaphore
    is at zero and the wait is recorded. -/
theorem copy_wait {Q : α → sProp 𝕄} {src : Memref sig c.2.kind sp s e} {dst : Memref sig c.2.kind sp' s e} {sem : DmaSem sig}
    {hsrc : src.view.WordExact} {hdst : dst.view.WordExact} {k : PUnit → Prog (TpuEff nD τ sig Val Λ c.2) α}
    {q : PosShare TreeShare} {fs : Buf Val (src.view.loc c)} {N : ℕ} (hN : dst.view.dmaCredit = N)
    {O : CellTallies nD τ sig Unit} {W : Waits sig Unit} :
    iprop(Copying c (.dma sem) N src dst q fs ∗ owes c O W ∗ MayWait c (.dma sem) () O : sProp 𝕄)
      ⊢ iprop((iprop(owns c dst fullShare (src.view.read Val fs) ∗ (src.view.loc c ↦{q} fs) ∗ semVal (c, .dma sem) 0
              ∗ owes c O (insert (SemLoc.dma sem, ()) W)) -∗ wp frame (wpE defs 𝒱 c bd) Set.univ (k ⟨⟩) Q)
          -∗ wp frame (wpE defs 𝒱 c bd) Set.univ (.op (.waitDma2 sem src dst hsrc hdst) k) Q) := by
  unfold Copying
  iintro ⟨⟨HF, Hrest⟩, HO, Hmw⟩ Hk
  iapply (Transfers.wp_waitLocalO countersEmb 𝒱 c bd () hN) $$ [HF HO Hmw]
  · isplitl [HF]; · iexact HF
    isplitl [HO] <;> iassumption
  iintro ⟨⟨Hd, Hs⟩, Hv, HO⟩
  iapply Hk
  isplitl [Hd]; · iexact Hd
  isplitl [Hs Hrest]
  · iapply (pointsTo_split_subset (Finset.subset_univ src.view.set)).2
    isplitl [Hs] <;> iassumption
  isplitl [Hv] <;> iassumption

end Copy

end Cert.Slots
-- ==== Proof.Protocol.lean ====
/-
# The exchange between the four devices

Device `c` sends three blocks of its `x`, one along each lane `k`: lane `k` runs from `c` to the device `k + 1`
places after it, and lands in row `k` of that device's landing buffer. Before any of it, every device tells
each of the three devices that send to it that its landing rows are free, on the barrier semaphore, and waits
until it has been told three times.

Under the rounds library each semaphore is a cell with one round. A barrier cell has three duties, one a lane:
duty `k` is paid by the receiver of lane `k`, with row `k` of its landing buffer. A lane's receive cell is paid
by the sender with the row holding the block; the lane's send cell is paid with the source of the block back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Slots
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The exchange's rounds (duties are lanes), -/
abbrev UB : Type := URounds (GSem nD τ sig) (Fin 3)
/-- beside the pipeline library's and the counters of the kernel's own copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (Emb.inl : Emb UB (UB × Counters)).trans embR
instance ER_landsIn : (ER : Emb UB 𝕄).LandsIn (upEmb : UEmb _ 𝕄) := by unfold ER; infer_instance

variable (m : (ℓ : Loc nD τ sig) → Buf (Elt F) ℓ)

/-! ## The lanes -/

/-- The device lane `k` of `c` runs to, -/
def ahead (k : Fin 3) (c : Dev nD) : Dev nD := ⟨(c.val + (k.val + 1)) % 4, Nat.mod_lt _ (by decide)⟩
/-- and the device whose lane `k` runs to `c`. -/
def behind (k : Fin 3) (c : Dev nD) : Dev nD := ⟨(c.val + (3 - k.val)) % 4, Nat.mod_lt _ (by decide)⟩

theorem behind_ahead (k : Fin 3) (c : Dev nD) : behind k (ahead k c) = c := by revert k c; decide
theorem ahead_behind (k : Fin 3) (c : Dev nD) : ahead k (behind k c) = c := by revert k c; decide

/-- A lane moves the devices round. -/
def round (k : Fin 3) : Dev nD ≃ Dev nD := ⟨ahead k, behind k, behind_ahead k, ahead_behind k⟩

/-- The devices the kernel's index arithmetic names: the three signals go back along lanes 2, 1, 0, -/
theorem dev1_eq (c : Dev nD) : (⟨k0_dev1 c, k0_dev1_lt c⟩ : Dev nD) = behind 2 c := Fin.ext (k0_dev1_eq c)
theorem dev2_eq (c : Dev nD) : (⟨k0_dev2 c, k0_dev2_lt c⟩ : Dev nD) = behind 1 c := Fin.ext (k0_dev2_eq c)
theorem dev3_eq (c : Dev nD) : (⟨k0_dev3 c, k0_dev3_lt c⟩ : Dev nD) = behind 0 c := Fin.ext (k0_dev3_eq c)
/-- the three sends forward along lanes 0, 2, 1. -/
theorem dev4_eq (c : Dev nD) : (⟨k0_dev4 c, k0_dev4_lt c⟩ : Dev nD) = ahead 0 c := Fin.ext (k0_dev4_eq c)
theorem dev5_eq (c : Dev nD) : (⟨k0_dev5 c, k0_dev5_lt c⟩ : Dev nD) = ahead 2 c := Fin.ext (k0_dev5_eq c)
theorem dev6_eq (c : Dev nD) : (⟨k0_dev6 c, k0_dev6_lt c⟩ : Dev nD) = ahead 1 c := Fin.ext (k0_dev6_eq c)

/-! ## The buffers' slots and the semaphores -/

theorem inb_slot {n a b : ℕ} (j : Fin n) :
    ∀ i, (![j.val, 0, 0] : Fin 3 → ℕ) i + (⟨3, ![1, a, b]⟩ : Shape).size i ≤ (⟨3, ![n, a, b]⟩ : Shape).size i := fun i => by
  fin_cases i
  · exact j.isLt
  · exact (Nat.zero_add a).le
  · exact (Nat.zero_add b).le
theorem inb_sem {n : ℕ} (j : Fin n) :
    ∀ i, (![j.val] : Fin 1 → ℕ) i + S1.size i ≤ (⟨1, ![n]⟩ : Shape).size i := fun i => by
  fin_cases i; exact j.isLt

abbrev xM : Memref sig .tc .hbm S4096x1024 .f32 := Memref.whole main_arg0
abbrev wM : Memref sig .tc .hbm S4096x2048 .f32 := Memref.whole main_arg1
abbrev sxM : Memref sig .tc .smem S1 .f32 := Memref.whole cc0_stg0_0
abbrev swM : Memref sig .tc .smem S1 .f32 := Memref.whole cc0_stg1_0
abbrev outM : Memref sig .tc .vmem S1024x2048 .f32 := Memref.whole cc0_stg2_0
abbrev xsM : Memref sig .tc .vmem S2x1024x1024 .f32 := Memref.whole cc0_scratch0
abbrev x8M : Memref sig .tc .vmem S4x1024x1024 .fp8e4m3 := Memref.whole cc0_scratch1
abbrev wsM : Memref sig .tc .vmem S2x1024x2048 .f32 := Memref.whole cc0_scratch2
abbrev rvM : Memref sig .tc .vmem S3x1024x1024 .fp8e4m3 := Memref.whole cc0_scratch3

/-- Row block `r` of `x` counted from `c`'s own, and of `w` counted back from it. -/
abbrev xRow (c : Dev nD) (r : Fin 4) : Memref sig .tc .hbm S1024x1024 .f32 :=
  xM.slice (Rect.unit (s := S4096x1024) (k0_off1 c (BitVec.ofNat 32 r.val)) S1024x1024.size (k0_off1_inb c r)) (fun _ => rfl)
abbrev wRow (c : Dev nD) (r : Fin 4) : Memref sig .tc .hbm S1024x2048 .f32 :=
  wM.slice (Rect.unit (s := S4096x2048) (k0_off2 c (BitVec.ofNat 32 r.val)) S1024x2048.size (k0_off2_inb c r)) (fun _ => rfl)

/-- The rows of the two staging buffers, of the buffer the sends read and of the landing buffer. -/
abbrev xsSlot (j : Fin 2) : Memref sig .tc .vmem S1024x1024 .f32 :=
  (xsM.slice (Rect.unit (s := S2x1024x1024) ![j.val, 0, 0] S1x1024x1024.size (inb_slot j)) (fun _ => rfl)).squeeze S1024x1024 squeezes_S1x1024x1024_S1024x1024
abbrev wsSlot (j : Fin 2) : Memref sig .tc .vmem S1024x2048 .f32 :=
  (wsM.slice (Rect.unit (s := S2x1024x2048) ![j.val, 0, 0] S1x1024x2048.size (inb_slot j)) (fun _ => rfl)).squeeze S1024x2048 squeezes_S1x1024x2048_S1024x2048
abbrev x8Slot (j : Fin 4) : Memref sig .tc .vmem S1024x1024 .fp8e4m3 :=
  (x8M.slice (Rect.unit (s := S4x1024x1024) ![j.val, 0, 0] S1x1024x1024.size (inb_slot j)) (fun _ => rfl)).squeeze S1024x1024 squeezes_S1x1024x1024_S1024x1024
abbrev rvSlot (k : Fin 3) : Memref sig .tc .vmem S1024x1024 .fp8e4m3 :=
  (rvM.slice (Rect.unit (s := S3x1024x1024) ![k.val, 0, 0] S1x1024x1024.size (inb_slot k)) (fun _ => rfl)).squeeze S1024x1024 squeezes_S1x1024x1024_S1024x1024

/-- Lane `k` reads this row: the blocks are converted in the order 1, 3, 2. -/
abbrev laneRow (k : Fin 3) : Fin 4 := match k with | 0 => 0 | 1 => 2 | 2 => 1

abbrev xcpS (j : Fin 2) : DmaSem sig := ((cc0_scratch4.slice (Rect.unit (s := S2) ![j.val] S1.size (inb_sem j))).squeeze S_ squeezes_S1_S_).sem
abbrev wcpS (j : Fin 2) : DmaSem sig := ((cc0_scratch5.slice (Rect.unit (s := S2) ![j.val] S1.size (inb_sem j))).squeeze S_ squeezes_S1_S_).sem
abbrev sendS (k : Fin 3) : DmaSem sig := ((cc0_scratch6.slice (Rect.unit (s := S3) ![k.val] S1.size (inb_sem k))).squeeze S_ squeezes_S1_S_).sem
abbrev recvS (k : Fin 3) : DmaSem sig := ((cc0_scratch7.slice (Rect.unit (s := S3) ![k.val] S1.size (inb_sem k))).squeeze S_ squeezes_S1_S_).sem
abbrev barS : Sem sig := (SemArray.scalar (sig.barrier 0 rfl) : Sems sig S_).sem

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- What a semaphore is for. -/
inductive Role where
  | bar
  | send (k : Fin 3)
  | recv (k : Fin 3)
  | idle
  deriving DecidableEq

def role (sm : SemLoc sig) : Role :=
  if sm = .reg barS then .bar
  else if sm = .dma (sendS 0) then .send 0
  else if sm = .dma (sendS 1) then .send 1
  else if sm = .dma (sendS 2) then .send 2
  else if sm = .dma (recvS 0) then .recv 0
  else if sm = .dma (recvS 1) then .recv 1
  else if sm = .dma (recvS 2) then .recv 2
  else .idle

theorem role_bar : role (.reg barS) = .bar := by decide
theorem role_send (k : Fin 3) : role (.dma (sendS k)) = .send k := by revert k; decide
theorem role_recv (k : Fin 3) : role (.dma (recvS k)) = .recv k := by revert k; decide
theorem role_xcp (j : Fin 2) : role (.dma (xcpS j)) = .idle := by revert j; decide
theorem role_wcp (j : Fin 2) : role (.dma (wcpS j)) = .idle := by revert j; decide

/-- The credit of one sent block. -/
abbrev N : ℕ := (rvSlot 0).view.dmaCredit
theorem N_pos : 0 < N := View.dmaCredit_pos _ (by decide)

/-! ## Contents -/

/-- The row block of `x` a device's `r`-th conversion reads, and of `w` its `r`-th product. -/
def xBlk (c : Dev nD) (r : Fin 4) : S1024x1024.Idx → Elt F .f32 :=
  (xRow c r).view.read (Elt F) (m ((c : Thread nD τ).loc main_arg0))
def wBlk (c : Dev nD) (r : Fin 4) : S1024x2048.Idx → Elt F .f32 :=
  (wRow c r).view.read (Elt F) (m ((c : Thread nD τ).loc main_arg1))
/-- The block of `x` converted. -/
def x8Blk (c : Dev nD) (r : Fin 4) : S1024x1024.Idx → Elt F .fp8e4m3 :=
  truncf .fp8e4m3 (xBlk m c r) bitsLt_fp8e4m3_f32

/-! ## The schedule -/

/-- A lane's receiver tells its sender that the landing row is free, handing it over. -/
def barPay (c : Dev nD) (k : Fin 3) : sProp 𝕄 :=
  iprop((∃ u, owns (ahead k c : Thread nD τ) (rvSlot k) fullShare u) ∗ reached ER (recvCell (ahead k c) k) 0)
/-- The landing row with the sender's block in it, -/
def recvPay (c : Dev nD) (k : Fin 3) : sProp 𝕄 := owns (c : Thread nD τ) (rvSlot k) fullShare (x8Blk m (behind k c) k.succ)
/-- and the row the block was read from, back with the sender. -/
def sendPay (c : Dev nD) (k : Fin 3) : sProp 𝕄 := owns (c : Thread nD τ) (x8Slot (laneRow k)) fullShare (x8Blk m c k.succ)

/-- One round a cell: a barrier cell three duties of one unit, a send or receive cell one duty of the block's credit. -/
def sched : Rounds.Schedule (GSem nD τ sig) (Fin 3) 𝕄 where
  duties g r := if r = 0 ∧ g.1.2 = .tc then
      (match role g.2 with | .bar => Finset.univ | .send _ => {0} | .recv _ => {0} | .idle => ∅) else ∅
  unitless _ := False
  amount g _ _ := match role g.2 with | .bar => 1 | _ => N
  payload g _ d := match role g.2 with
    | .bar => barPay g.1.1 d
    | .send k => sendPay m g.1.1 k
    | .recv k => recvPay m g.1.1 k
    | .idle => iprop(emp)
  amount_pos g _ _ _ := by
    rcases role g.2 with _ | _ | _ | _
    · exact Nat.one_pos
    all_goals exact N_pos

instance sched_payload_storable (g : GSem nD τ sig) (r : ℕ) (d : Fin 3) :
    BI.Storable (upEmb : UEmb _ 𝕄) ((sched m).payload g r d) := by
  dsimp only [sched]
  unfold barPay recvPay sendPay
  split <;> infer_instance

section Tables

variable (c : Dev nD) (k d : Fin 3)

theorem duties_bar : (sched m).duties (barCell c) 0 = Finset.univ := by
  dsimp only [sched]; rw [if_pos ⟨rfl, rfl⟩, role_bar]
theorem duties_send : (sched m).duties (sendCell c k) 0 = {0} := by
  dsimp only [sched]; rw [if_pos ⟨rfl, rfl⟩, role_send]
theorem duties_recv : (sched m).duties (recvCell c k) 0 = {0} := by
  dsimp only [sched]; rw [if_pos ⟨rfl, rfl⟩, role_recv]
theorem duties_later (g : GSem nD τ sig) : ∀ r, 1 ≤ r → (sched m).duties g r = ∅ :=
  fun r hr => if_neg fun h => absurd h.1 (Nat.pos_iff_ne_zero.mp hr)

theorem amount_bar : (sched m).amount (barCell c) 0 d = 1 := by dsimp only [sched]; rw [role_bar]
theorem amount_send : (sched m).amount (sendCell c k) 0 d = N := by dsimp only [sched]; rw [role_send]
theorem amount_recv : (sched m).amount (recvCell c k) 0 d = N := by dsimp only [sched]; rw [role_recv]

theorem payload_bar : (sched m).payload (barCell c) 0 d = barPay c d := by dsimp only [sched]; rw [role_bar]
theorem payload_send : (sched m).payload (sendCell c k) 0 d = sendPay m c k := by dsimp only [sched]; rw [role_send]
theorem payload_recv : (sched m).payload (recvCell c k) 0 d = recvPay m c k := by dsimp only [sched]; rw [role_recv]

theorem expect_bar : (sched m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched m).expect (sendCell c k) 0 = N := by
  unfold Schedule.expect Schedule.amountOf; rw [duties_send, Finset.sum_singleton, amount_send]
theorem expect_recv : (sched m).expect (recvCell c k) 0 = N := by
  unfold Schedule.expect Schedule.amountOf; rw [duties_recv, Finset.sum_singleton, amount_recv]

theorem bigSep_lanes {M : Type} [URA M] (Φ : Fin 3 → sProp M) : bigSep Finset.univ Φ = iprop(Φ 0 ∗ Φ 1 ∗ Φ 2) :=
  bigSep_univ_eq_bigSepL [0, 1, 2] (by decide) (by decide) Φ

/-- What a whole round of each cell hands its waiter. -/
theorem rest_bar : bigSep ((sched m).duties (barCell c) 0 \ ∅) (fun d => (sched m).payload (barCell c) 0 d)
    = iprop(barPay (F := F) c 0 ∗ barPay c 1 ∗ barPay c 2) := by
  rw [Finset.sdiff_empty, duties_bar, bigSep_lanes, payload_bar, payload_bar, payload_bar]
theorem rest_send : bigSep ((sched m).duties (sendCell c k) 0 \ ∅) (fun d => (sched m).payload (sendCell c k) 0 d) = sendPay m c k := by
  rw [Finset.sdiff_empty, duties_send, bigSep_singleton, payload_send]
theorem rest_recv : bigSep ((sched m).duties (recvCell c k) 0 \ ∅) (fun d => (sched m).payload (recvCell c k) 0 d) = recvPay m c k := by
  rw [Finset.sdiff_empty, duties_recv, bigSep_singleton, payload_recv]

end Tables

/-! ## What a device owes, and the order of the waits -/

/-- What a device owes along a lane: the receiver a block's credit, -/
abbrev oweBlk (c : Dev nD) (k : Fin 3) : CellTallies nD τ sig Unit := tallyAt (recvCell (ahead k c) k) () N
/-- and the sender of the lane one unit of its barrier. -/
abbrev oweBar (c : Dev nD) (k : Fin 3) : CellTallies nD τ sig Unit := tallyAt (barCell (behind k c)) () 1

/-- The blocks owed, in the order the sends pay them: lane 0 first, then lane 2, then lane 1. -/
def O₁ (c : Dev nD) : CellTallies nD τ sig Unit := oweBlk c 1 + oweBlk c 2 + oweBlk c 0
/-- All that is owed at launch: the signals pay lane 2's unit first, then lane 1's, then lane 0's. -/
def O₀ (c : Dev nD) : CellTallies nD τ sig Unit := O₁ c + oweBar c 0 + oweBar c 1 + oweBar c 2

def L (g : GSem nD τ sig) : Finset Unit := if g.1.2 = .tc then {()} else ∅
/-- Barrier cells below receive cells, everything else below both. -/
def lvOf (sm : SemLoc sig) : ℕ := match role sm with | .bar => 1 | .recv _ => 2 | _ => 0
def lv (g : GSem nD τ sig) (_ : Unit) : ℕ := lvOf g.2

theorem L_of_ne (g : GSem nD τ sig) (h : g.1.2 ≠ .tc) : L g = ∅ := if_neg h

/-- Everything owed lies above level `a`. -/
def Above (a : ℕ) (O : CellTallies nD τ sig Unit) : Prop := ∀ g u, 0 < O g u → g.1.2 = .tc ∧ a < lvOf g.2

theorem Above.add {a : ℕ} {O O' : CellTallies nD τ sig Unit} (h : Above a O) (h' : Above a O') : Above a (O + O') := fun g u hp => by
  rw [Pi.add_apply, Finsupp.add_apply] at hp
  rcases Nat.eq_zero_or_pos (O g u) with h0 | h0
  · exact h' g u (by omega)
  · exact h g u h0
theorem Above.tally {a : ℕ} {g : GSem nD τ sig} {n : ℕ} (h1 : g.1.2 = .tc) (h2 : a < lvOf g.2) : Above a (tallyAt g () n) := fun g' u hp => by
  rw [tallyAt_apply] at hp
  by_cases h : g' = g ∧ u = ()
  · rw [h.1]; exact ⟨h1, h2⟩
  · rw [if_neg h] at hp; exact absurd hp (Nat.lt_irrefl 0)

theorem lvOf_recv (k : Fin 3) : lvOf (.dma (recvS k)) = 2 := by unfold lvOf; rw [role_recv]
theorem lvOf_bar : lvOf (.reg barS) = 1 := by unfold lvOf; rw [role_bar]
theorem lvOf_send (k : Fin 3) : lvOf (.dma (sendS k)) = 0 := by unfold lvOf; rw [role_send]
theorem lvOf_xcp (j : Fin 2) : lvOf (.dma (xcpS j)) = 0 := by unfold lvOf; rw [role_xcp]
theorem lvOf_wcp (j : Fin 2) : lvOf (.dma (wcpS j)) = 0 := by unfold lvOf; rw [role_wcp]

theorem above_blk {a : ℕ} (ha : a < 2) (c : Dev nD) (k : Fin 3) : Above a (oweBlk c k) := .tally rfl (by rw [lvOf_recv]; exact ha)
theorem above_bar (c : Dev nD) (k : Fin 3) : Above 0 (oweBar c k) := .tally rfl (by rw [lvOf_bar]; exact Nat.one_pos)
theorem above_zero {a : ℕ} : Above a 0 := fun g u hp => absurd hp (Nat.lt_irrefl 0)
theorem above_two (c : Dev nD) {a : ℕ} (ha : a < 2) : Above a (oweBlk c 1 + oweBlk c 2) := (above_blk ha c 1).add (above_blk ha c 2)
theorem above_O₁ (c : Dev nD) {a : ℕ} (ha : a < 2) : Above a (O₁ c) := (above_two c ha).add (above_blk ha c 0)
theorem above_O₀ (c : Dev nD) : Above 0 (O₀ c) :=
  (((above_O₁ c (by decide)).add (above_bar c 0)).add (above_bar c 1)).add (above_bar c 2)

/-- A wait on a semaphore at or below a level everything owed lies above. -/
theorem mayWait {a : ℕ} {sm : SemLoc sig} (h : lvOf sm ≤ a) {O : CellTallies nD τ sig Unit} (hO : Above a O) (c : Dev nD) :
    (levAts L lv : sProp 𝕄) ⊢ MayWait (c : Thread nD τ) sm () O :=
  MayOwe.of_cut (L := L) (lev := lv) a (fun p hp => by rw [Finset.mem_singleton.mp hp]; exact Finset.mem_singleton_self _)
    (fun g u hg => by rw [L, if_pos (hO g u hg).1]; exact Finset.mem_singleton_self _)
    (fun p hp => by rw [Finset.mem_singleton.mp hp]; exact h)
    (fun g u hg => (hO g u hg).2)

/-! ## The cells by number, and what a device holds of them -/

/-- A device's seven cells: the barrier, then for each lane its send and its receive cell. -/
abbrev csem (j : Fin 7) : SemLoc sig := match j with
  | 0 => .reg barS | 1 => .dma (sendS 0) | 2 => .dma (sendS 1) | 3 => .dma (sendS 2)
  | 4 => .dma (recvS 0) | 5 => .dma (recvS 1) | 6 => .dma (recvS 2)
abbrev kcell (cj : Dev nD × Fin 7) : GSem nD τ sig := ((cj.1 : Thread nD τ), csem cj.2)

/-- Every cell's invariant, and that its round 0 is reached: what all devices share. -/
def records (K : Dev nD × Fin 7 → ℕ) : sProp 𝕄 :=
  iprop((bigSep Finset.univ fun cj : Dev nD × Fin 7 => cellInv ER (sched m) (K cj) (kcell cj))
    ∗ bigSep Finset.univ fun cj : Dev nD × Fin 7 => reached ER (kcell cj) 0)

instance records_persistent (K : Dev nD × Fin 7 → ℕ) : BI.Persistent (records m K) := by unfold records; infer_instance

def sendJ (k : Fin 3) : Fin 7 := match k with | 0 => 1 | 1 => 2 | 2 => 3
def recvJ (k : Fin 3) : Fin 7 := match k with | 0 => 4 | 1 => 5 | 2 => 6
theorem kcell_send (c : Dev nD) (k : Fin 3) : kcell (c, sendJ k) = sendCell c k := by fin_cases k <;> rfl
theorem kcell_recv (c : Dev nD) (k : Fin 3) : kcell (c, recvJ k) = recvCell c k := by fin_cases k <;> rfl

theorem rec_inv (K : Dev nD × Fin 7 → ℕ) (cj : Dev nD × Fin 7) : records m K ⊢ cellInv ER (sched m) (K cj) (kcell cj) := by
  unfold records; exact sep_elim_left.trans (bigSep_elim (Finset.mem_univ cj))
theorem rec_reached (K : Dev nD × Fin 7 → ℕ) (cj : Dev nD × Fin 7) : records m K ⊢ reached ER (kcell cj) 0 := by
  unfold records; exact sep_elim_right.trans (bigSep_elim (Finset.mem_univ cj))

theorem inv_bar (K : Dev nD × Fin 7 → ℕ) (c : Dev nD) : records m K ⊢ cellInv ER (sched m) (K (c, 0)) (barCell c) := rec_inv m K (c, 0)
theorem inv_send (K : Dev nD × Fin 7 → ℕ) (c : Dev nD) (k : Fin 3) : records m K ⊢ cellInv ER (sched m) (K (c, sendJ k)) (sendCell c k) := by
  rw [← kcell_send]; exact rec_inv m K (c, sendJ k)
theorem inv_recv (K : Dev nD × Fin 7 → ℕ) (c : Dev nD) (k : Fin 3) : records m K ⊢ cellInv ER (sched m) (K (c, recvJ k)) (recvCell c k) := by
  rw [← kcell_recv]; exact rec_inv m K (c, recvJ k)
theorem reached_bar (K : Dev nD × Fin 7 → ℕ) (c : Dev nD) : records m K ⊢ reached ER (barCell c) 0 := rec_reached m K (c, 0)
theorem reached_send (K : Dev nD × Fin 7 → ℕ) (c : Dev nD) (k : Fin 3) : records m K ⊢ reached ER (sendCell c k) 0 := by
  rw [← kcell_send]; exact rec_reached m K (c, sendJ k)
theorem reached_recv (K : Dev nD × Fin 7 → ℕ) (c : Dev nD) (k : Fin 3) : records m K ⊢ reached ER (recvCell c k) 0 := by
  rw [← kcell_recv]; exact rec_reached m K (c, recvJ k)

/-- What a device holds of a lane: it is at round 0 of its own send and receive cells, and it has the tokens of the
    duties it pays — its sender's barrier, its own send, its receiver's receive. -/
def lane (c : Dev nD) (k : Fin 3) : sProp 𝕄 :=
  iprop(atPos ER (sendCell c k) 0 ∅ 0 ∗ atPos ER (recvCell c k) 0 ∅ 0
    ∗ dutyTok ER (barCell (behind k c)) 0 k ∗ dutyTok ER (sendCell c k) 0 0 ∗ dutyTok ER (recvCell (ahead k c) k) 0 0)

end Cert.Exchange
-- ==== Proof.Rules.lean ====
/-
# One rule for each step of the exchange

A signal to a sender, the wait for the three receivers, the send of a block along a lane, and the waits for a
send and for a landing: what each takes and what it gives, stated once for every lane.
-/
module

public import proofs.«01_k».proof.Proof.Protocol

@[expose] public section

noncomputable section

namespace Cert.Exchange

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Fin 7 → ℕ) (c : Dev nD) {α : Type}

/-- The device owes `O`, whatever it has waited for. -/
def Owes (O : CellTallies nD τ sig Unit) : sProp 𝕄 := iprop(∃ W, owes (c : Thread nD τ) O W)

/-- Every landing row's block is the same credit. -/
theorem landing_credit (k : Fin 3) : (rvSlot k).view.amount (.dma (recvS k)) = N := by fin_cases k <;> rfl

/-- Telling the sender of lane `k` that the landing row is free pays that unit of what is owed. -/
theorem bar_signal {Q : α → sProp 𝕄} (k : Fin 3) {n : Dev nD} (hn : n = behind k c) (O : CellTallies nD τ sig Unit)
    {cont : PUnit → Prog (TpuEff nD τ sig (Elt F) Λ₀ .tc) α} :
    iprop(records m K ∗ Owes c (O + oweBar c k) ∗ dutyTok ER (barCell (behind k c)) 0 k
        ∗ (∃ u, owns (c : Thread nD τ) (rvSlot k) fullShare u))
      ⊢ iprop((Owes c O -∗ wp frame (wpE (defs₀ (F := F)) 𝒱₀ (c : Thread nD τ) none) Set.univ (cont ⟨⟩) Q)
        -∗ wp frame (wpE (defs₀ (F := F)) 𝒱₀ (c : Thread nD τ) none) Set.univ (.op (.semSignal (n : Thread nD τ) barS 1) cont) Q) := by
  subst hn
  unfold Owes
  iintro ⟨#HR, ⟨%W, HO⟩, Ht, Hrow⟩ Hk
  iapply (Rounds.wp_signal 𝒱₀ ER (sched m) (c : Thread nD τ) none (dst := (behind k c : Thread nD τ)) (κ := K (behind k c, 0))
      (d := k) (by rw [duties_bar]; exact Finset.mem_univ _) (amount_bar m (behind k c) k) () O rfl (W := W)) $$ [HO Ht Hrow]
  · isplitr; · iapply (inv_bar m K (behind k c)); iexact HR
    isplitl [HO]; · iexact HO
    isplitl [Ht]; · iexact Ht
    isplitl [Hrow]
    · rw [payload_bar]; unfold barPay; rw [ahead_behind]
      isplitl [Hrow]; · iexact Hrow
      iapply (reached_recv m K c k); iexact HR
    iapply (reached_bar m K (behind k c)); iexact HR
  iintro HO
  iapply Hk
  iexists W; iexact HO

/-- Waiting to be told by all three receivers gives the three landing rows, each on its receiver. -/
theorem bar_wait {Q : α → sProp 𝕄} {O : CellTallies nD τ sig Unit} (hO : Above 1 O)
    {cont : PUnit → Prog (TpuEff nD τ sig (Elt F) Λ₀ .tc) α} :
    iprop(records m K ∗ levAts L lv ∗ cred (tallyAt (barCell c) () 3) ∗ Owes c O ∗ atPos ER (barCell c) 0 ∅ 0)
      ⊢ iprop((iprop(Owes c O ∗ atPos ER (barCell c) 1 ∅ 0
            ∗ (∃ u, owns (ahead 0 c : Thread nD τ) (rvSlot 0) fullShare u) ∗ (∃ u, owns (ahead 1 c : Thread nD τ) (rvSlot 1) fullShare u)
            ∗ (∃ u, owns (ahead 2 c : Thread nD τ) (rvSlot 2) fullShare u))
          -∗ wp frame (wpE (defs₀ (F := F)) 𝒱₀ (c : Thread nD τ) none) Set.univ (cont ⟨⟩) Q)
        -∗ wp frame (wpE (defs₀ (F := F)) 𝒱₀ (c : Thread nD τ) none) Set.univ (.op (.semWait barS 3) cont) Q) := by
  unfold Owes
  iintro ⟨#HR, #Hlv, Hc, ⟨%W, HO⟩, Ha⟩ Hk
  iapply (Rounds.wp_wait_rest_token 𝒱₀ ER (sched m) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Ha]
  · isplitr; · iapply (inv_bar m K c); iexact HR
    isplitl [Hc]; · iexact Hc
    isplitl [HO]; · iexact HO
    isplitr; · iapply (mayWait (by rw [lvOf_bar]) hO c); iexact Hlv
    iexact Ha
  iintro ⟨HO, Ha, -, Hp⟩
  ihave Hp := (Entails.of_eq (rest_bar m c)) $$ Hp
  unfold barPay
  icases Hp with ⟨⟨H0, -⟩, ⟨H1, -⟩, ⟨H2, -⟩⟩
  iapply Hk
  isplitl [HO]; · iexists _; iexact HO
  isplitl [Ha]; · iexact Ha
  isplitl [H0]; · iexact H0
  isplitl [H1] <;> iassumption

/-- Sending a block along lane `k`: the row it is read from and the receiver's landing row go; what is owed loses the
    lane's block, and the credit to wait for the send comes. -/
theorem lane_send {Q : α → sProp 𝕄} (k : Fin 3) {n : Dev nD} (hn : n = ahead k c) (O : CellTallies nD τ sig Unit)
    {O' : CellTallies nD τ sig Unit} (hO : O' = O + oweBlk c k)
    {hsc : (rvSlot k : Memref sig (Dev.tc n : Thread nD τ).2.kind .vmem S1024x1024 .fp8e4m3).view.ref.isScScratch = false}
    {hsrc : (x8Slot (laneRow k)).view.WordExact} {hdst : (rvSlot k).view.WordExact}
    {hsem : DmaTarget.Typed .vmem (.dma (recvS k)) (.remote (Dev.tc n : Thread nD τ) (rvSlot k) (.dma (sendS k)) hsc)}
    {cont : PUnit → Prog (TpuEff nD τ sig (Elt F) Λ₀ .tc) α} :
    iprop(records m K ∗ owns (c : Thread nD τ) (x8Slot (laneRow k)) fullShare (x8Blk m c k.succ)
        ∗ (∃ u, owns (ahead k c : Thread nD τ) (rvSlot k) fullShare u)
        ∗ Owes c O' ∗ dutyTok ER (sendCell c k) 0 0 ∗ dutyTok ER (recvCell (ahead k c) k) 0 0)
      ⊢ iprop((iprop(cred (tallyAt (sendCell c k) () N) ∗ Owes c O)
          -∗ wp frame (wpE (defs₀ (F := F)) 𝒱₀ (c : Thread nD τ) none) Set.univ (cont ⟨⟩) Q)
        -∗ wp frame (wpE (defs₀ (F := F)) 𝒱₀ (c : Thread nD τ) none) Set.univ
          (.op (.enqueueDma (x8Slot (laneRow k)) (.remote (Dev.tc n : Thread nD τ) (rvSlot k) (.dma (sendS k)) hsc) (.dma (recvS k)) hsrc hdst hsem) cont) Q) := by
  subst hn hO
  unfold owns Owes
  iintro ⟨#HR, ⟨%fs, %hfs, Hs⟩, ⟨%u, %fd, -, Hd⟩, ⟨%W, HO⟩, Hts, Htr⟩ Hk
  iapply (Rounds.wp_send_pointsTo 𝒱₀ ER (sched m) (c : Thread nD τ) none (κ₁ := K (c, sendJ k)) (κ₂ := K (ahead k c, recvJ k))
    (r₁ := 0) (r₂ := 0) (d₁ := 0) (d₂ := 0) (fs := fs) (fd := fd)
    (by rw [duties_send]; exact Finset.mem_singleton_self _) (by rw [duties_recv]; exact Finset.mem_singleton_self _)
    () () N (landing_credit k) (amount_send m c k 0) (amount_recv m (ahead k c) k 0) O rfl (W := W)
    (by
      rw [payload_send]; unfold sendPay owns
      iintro H; iexists fs
      isplitr; · ipureintro; exact hfs
      iexact H)
    (by
      rw [payload_recv]; unfold recvPay owns; rw [behind_ahead]
      iintro H; iexists ((rvSlot k).view.write (Elt F) fd ((x8Slot (laneRow k)).view.read (Elt F) fs) Finset.univ)
      isplitr; · ipureintro; exact (View.read_write_univ _ _).trans hfs
      iexact H)) $$ [Hs Hd HO Hts Htr]
  · isplitr; · iapply (inv_send m K c k); iexact HR
    isplitr; · iapply (inv_recv m K (ahead k c) k); iexact HR
    isplitl [Hs]; · iexact Hs
    isplitl [Hd]; · iexact Hd
    isplitl [HO]; · iexact HO
    isplitl [Hts]; · iexact Hts
    isplitr; · iapply (reached_send m K c k); iexact HR
    isplitl [Htr]; · iexact Htr
    iapply (reached_recv m K (ahead k c) k); iexact HR
  iintro ⟨Hc, HO⟩
  iapply Hk
  isplitl [Hc]; · iexact Hc
  iexists W; iexact HO

/-- Waiting for the send of lane `k` gives the row it was read from back. -/
theorem send_wait {Q : α → sProp 𝕄} (k : Fin 3) {O : CellTallies nD τ sig Unit} (hO : Above 0 O)
    {s : Shape} {e : EltTy} {sp sp' : Space} {src : Memref sig .tc sp s e} {dst : Memref sig .tc sp' s e}
    (hN : dst.view.dmaCredit = N) {hsrc : src.view.WordExact} {hdst : dst.view.WordExact}
    {cont : PUnit → Prog (TpuEff nD τ sig (Elt F) Λ₀ .tc) α} :
    iprop(records m K ∗ levAts L lv ∗ cred (tallyAt (sendCell c k) () N) ∗ Owes c O ∗ atPos ER (sendCell c k) 0 ∅ 0)
      ⊢ iprop((iprop(Owes c O ∗ atPos ER (sendCell c k) 1 ∅ 0
            ∗ owns (c : Thread nD τ) (x8Slot (laneRow k)) fullShare (x8Blk m c k.succ))
          -∗ wp frame (wpE (defs₀ (F := F)) 𝒱₀ (c : Thread nD τ) none) Set.univ (cont ⟨⟩) Q)
        -∗ wp frame (wpE (defs₀ (F := F)) 𝒱₀ (c : Thread nD τ) none) Set.univ (.op (.waitDma2 (sendS k) src dst hsrc hdst) cont) Q) := by
  unfold Owes
  iintro ⟨#HR, #Hlv, Hc, ⟨%W, HO⟩, Ha⟩ Hk
  iapply (Rounds.wp_wait_rest_token 𝒱₀ ER (sched m) (c : Thread nD τ) none (κ := K (c, sendJ k))
      (wpE_waitDma2_eq 𝒱₀ (c : Thread nD τ) none Set.univ) (Set.mem_univ _) () (O := O) (W := W) (R := 0) (m := 0) (T := ∅)
      (by rw [Nat.zero_add, expect_send, hN])) $$ [Hc HO Ha]
  · isplitr; · iapply (inv_send m K c k); iexact HR
    isplitl [Hc]; · rw [hN]; iexact Hc
    isplitl [HO]; · iexact HO
    isplitr; · iapply (mayWait (by rw [lvOf_send]) hO c); iexact Hlv
    iexact Ha
  iintro ⟨HO, Ha, -, Hp⟩
  ihave Hp := (Entails.of_eq (rest_send m c k)) $$ Hp
  unfold sendPay
  iapply Hk
  isplitl [HO]; · iexists _; iexact HO
  isplitl [Ha] <;> iassumption

/-- Waiting for the landing of lane `k`, nothing owed, gives the landing row with the sender's block in it. -/
theorem recv_wait {Q : α → sProp 𝕄} (k : Fin 3)
    {s : Shape} {e : EltTy} {sp sp' : Space} {src : Memref sig .tc sp s e} {dst : Memref sig .tc sp' s e}
    (hN : dst.view.dmaCredit = N) {hsrc : src.view.WordExact} {hdst : dst.view.WordExact}
    {cont : PUnit → Prog (TpuEff nD τ sig (Elt F) Λ₀ .tc) α} :
    iprop(records m K ∗ cred (tallyAt (recvCell c k) () N) ∗ Owes c 0 ∗ atPos ER (recvCell c k) 0 ∅ 0)
      ⊢ iprop((iprop(Owes c 0 ∗ atPos ER (recvCell c k) 1 ∅ 0
            ∗ owns (c : Thread nD τ) (rvSlot k) fullShare (x8Blk m (behind k c) k.succ))
          -∗ wp frame (wpE (defs₀ (F := F)) 𝒱₀ (c : Thread nD τ) none) Set.univ (cont ⟨⟩) Q)
        -∗ wp frame (wpE (defs₀ (F := F)) 𝒱₀ (c : Thread nD τ) none) Set.univ (.op (.waitDma2 (recvS k) src dst hsrc hdst) cont) Q) := by
  unfold Owes
  iintro ⟨#HR, Hc, ⟨%W, HO⟩, Ha⟩ Hk
  iapply (Rounds.wp_wait_rest_token 𝒱₀ ER (sched m) (c : Thread nD τ) none (κ := K (c, recvJ k))
      (wpE_waitDma2_eq 𝒱₀ (c : Thread nD τ) none Set.univ) (Set.mem_univ _) () (O := 0) (W := W) (R := 0) (m := 0) (T := ∅)
      (by rw [Nat.zero_add, expect_recv, hN])) $$ [Hc HO Ha]
  · isplitr; · iapply (inv_recv m K c k); iexact HR
    isplitl [Hc]; · rw [hN]; iexact Hc
    isplitl [HO]; · iexact HO
    isplitr; · rw [MayWait_zero]; iempintro
    iexact Ha
  iintro ⟨HO, Ha, -, Hp⟩
  ihave Hp := (Entails.of_eq (rest_recv m c k)) $$ Hp
  unfold recvPay
  iapply Hk
  isplitl [HO]; · iexists _; iexact HO
  isplitl [Ha] <;> iassumption

/-- A cell whose one round is over closes: its counter is at zero, the device's again. -/
theorem close_bar : iprop(records m K ∗ atPos ER (barCell c) 1 ∅ 0) ⊢ (|={Set.univ}=> semVal (barCell c) 0 : sProp 𝕄) := by
  iintro ⟨#HR, Ha⟩
  iapply (Rounds.cell_close ER (sched m) (Set.mem_univ (K (c, 0))) (fun h => h) (R := 0 + 1) (duties_later m (barCell c)))
  isplitr; · iapply (inv_bar m K c); iexact HR
  iexact Ha
theorem close_send (k : Fin 3) : iprop(records m K ∗ atPos ER (sendCell c k) 1 ∅ 0) ⊢ (|={Set.univ}=> semVal (sendCell c k) 0 : sProp 𝕄) := by
  iintro ⟨#HR, Ha⟩
  iapply (Rounds.cell_close ER (sched m) (Set.mem_univ (K (c, sendJ k))) (fun h => h) (R := 0 + 1) (duties_later m (sendCell c k)))
  isplitr; · iapply (inv_send m K c k); iexact HR
  iexact Ha
theorem close_recv (k : Fin 3) : iprop(records m K ∗ atPos ER (recvCell c k) 1 ∅ 0) ⊢ (|={Set.univ}=> semVal (recvCell c k) 0 : sProp 𝕄) := by
  iintro ⟨#HR, Ha⟩
  iapply (Rounds.cell_close ER (sched m) (Set.mem_univ (K (c, recvJ k))) (fun h => h) (R := 0 + 1) (duties_later m (recvCell c k)))
  isplitr; · iapply (inv_recv m K c k); iexact HR
  iexact Ha

end Cert.Exchange
-- ==== Proof.Steps.lean ====
/-
# The kernel's own steps on a device

The copies of row blocks of `x` and `w` into the staging slots, the accesses of the result's buffer and of the two
scales, and what each stored value is in terms of the blocks.
-/
module

public import proofs.«01_k».proof.Proof.Rules

@[expose] public section

noncomputable section

namespace Cert.Exchange

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD) {α : Type}

/-! ## The copies -/

/-- A share of the device's `x`, and of its `w`. -/
def xPart (q : PosShare TreeShare) : sProp 𝕄 := ((c : Thread nD τ).loc main_arg0) ↦{q} (m ((c : Thread nD τ).loc main_arg0))
def wPart (q : PosShare TreeShare) : sProp 𝕄 := ((c : Thread nD τ).loc main_arg1) ↦{q} (m ((c : Thread nD τ).loc main_arg1))

/-- Two copies read each array at a time, each from a half of it. -/
theorem x_halves : (xPart m c fullShare : sProp 𝕄) ⊣⊢ iprop(xPart m c fullShare.left ∗ xPart m c fullShare.right) :=
  pointsTo_share (by rw [PosShare.left_op_right]; exact Part.mem_some _)
theorem w_halves : (wPart m c fullShare : sProp 𝕄) ⊣⊢ iprop(wPart m c fullShare.left ∗ wPart m c fullShare.right) :=
  pointsTo_share (by rw [PosShare.left_op_right]; exact Part.mem_some _)

abbrev NX : ℕ := (xsSlot 0).view.dmaCredit
abbrev NW : ℕ := (wsSlot 0).view.dmaCredit
theorem x_credit (j : Fin 2) : (xsSlot j).view.dmaCredit = NX := by fin_cases j <;> rfl
theorem w_credit (j : Fin 2) : (wsSlot j).view.dmaCredit = NW := by fin_cases j <;> rfl
theorem NX_pos : 0 < NX := View.dmaCredit_pos _ (by decide)
theorem NW_pos : 0 < NW := View.dmaCredit_pos _ (by decide)

/-- Row block `r` of `x` on its way to staging slot `j`, and of `w`. -/
def xFly (j : Fin 2) (r : Fin 4) (q : PosShare TreeShare) : sProp 𝕄 :=
  Copying (c : Thread nD τ) (.dma (xcpS j)) NX (xRow c r) (xsSlot j) q (m ((c : Thread nD τ).loc main_arg0))
def wFly (j : Fin 2) (r : Fin 4) (q : PosShare TreeShare) : sProp 𝕄 :=
  Copying (c : Thread nD τ) (.dma (wcpS j)) NW (wRow c r) (wsSlot j) q (m ((c : Thread nD τ).loc main_arg1))

theorem x_start {Q : α → sProp 𝕄} (j : Fin 2) (r : Fin 4) (q : PosShare TreeShare)
    {hsrc : (xRow c r).view.WordExact} {hdst : (xsSlot j).view.WordExact}
    {hsem : DmaTarget.Typed (nD := nD) .hbm (.dma (xcpS j)) (.here (p := Proc.tc) (xsSlot j))}
    {cont : PUnit → Prog (TpuEff nD τ sig (Elt F) Λ₀ .tc) α} :
    iprop(xPart m c q ∗ (∃ u, owns (c : Thread nD τ) (xsSlot j) fullShare u) ∗ semVal ((c : Thread nD τ), .dma (xcpS j)) 0 : sProp 𝕄)
      ⊢ iprop((xFly m c j r q -∗ wp frame (wpE (defs₀ (F := F)) 𝒱₀ (c : Thread nD τ) none) Set.univ (cont ⟨⟩) Q)
        -∗ wp frame (wpE (defs₀ (F := F)) 𝒱₀ (c : Thread nD τ) none) Set.univ
          (.op (.enqueueDma (xRow c r) (.here (xsSlot j)) (.dma (xcpS j)) hsrc hdst hsem) cont) Q) := by
  unfold xFly xPart
  iintro ⟨Hx, ⟨%u, Hs⟩, Hv⟩ Hk
  iapply (copy_start 𝒱₀ (c : Thread nD τ) none (q := q) (fs := m ((c : Thread nD τ).loc main_arg0)) (u := u) NX (sm := .dma (xcpS j)) (x_credit j) NX_pos) $$ [Hx Hs Hv]
  · isplitl [Hx]; · iexact Hx
    isplitl [Hs] <;> iassumption
  iexact Hk

theorem w_start {Q : α → sProp 𝕄} (j : Fin 2) (r : Fin 4) (q : PosShare TreeShare)
    {hsrc : (wRow c r).view.WordExact} {hdst : (wsSlot j).view.WordExact}
    {hsem : DmaTarget.Typed (nD := nD) .hbm (.dma (wcpS j)) (.here (p := Proc.tc) (wsSlot j))}
    {cont : PUnit → Prog (TpuEff nD τ sig (Elt F) Λ₀ .tc) α} :
    iprop(wPart m c q ∗ (∃ u, owns (c : Thread nD τ) (wsSlot j) fullShare u) ∗ semVal ((c : Thread nD τ), .dma (wcpS j)) 0 : sProp 𝕄)
      ⊢ iprop((wFly m c j r q -∗ wp frame (wpE (defs₀ (F := F)) 𝒱₀ (c : Thread nD τ) none) Set.univ (cont ⟨⟩) Q)
        -∗ wp frame (wpE (defs₀ (F := F)) 𝒱₀ (c : Thread nD τ) none) Set.univ
          (.op (.enqueueDma (wRow c r) (.here (wsSlot j)) (.dma (wcpS j)) hsrc hdst hsem) cont) Q) := by
  unfold wFly wPart
  iintro ⟨Hx, ⟨%u, Hs⟩, Hv⟩ Hk
  iapply (copy_start 𝒱₀ (c : Thread nD τ) none (q := q) (fs := m ((c : Thread nD τ).loc main_arg1)) (u := u) NW (sm := .dma (wcpS j)) (w_credit j) NW_pos) $$ [Hx Hs Hv]
  · isplitl [Hx]; · iexact Hx
    isplitl [Hs] <;> iassumption
  iexact Hk

/-- Waiting for a copy gives the slot holding its row block, the share of the array and the semaphore back. -/
theorem x_wait {Q : α → sProp 𝕄} (j : Fin 2) (r : Fin 4) (q : PosShare TreeShare) {O : CellTallies nD τ sig Unit} (hO : Above 0 O)
    {hsrc : (xRow c r).view.WordExact} {hdst : (xsSlot j).view.WordExact} {cont : PUnit → Prog (TpuEff nD τ sig (Elt F) Λ₀ .tc) α} :
    iprop(levAts L lv ∗ xFly m c j r q ∗ Owes c O : sProp 𝕄)
      ⊢ iprop((iprop(owns (c : Thread nD τ) (xsSlot j) fullShare (xBlk m c r) ∗ xPart m c q ∗ semVal ((c : Thread nD τ), .dma (xcpS j)) 0 ∗ Owes c O)
          -∗ wp frame (wpE (defs₀ (F := F)) 𝒱₀ (c : Thread nD τ) none) Set.univ (cont ⟨⟩) Q)
        -∗ wp frame (wpE (defs₀ (F := F)) 𝒱₀ (c : Thread nD τ) none) Set.univ (.op (.waitDma2 (xcpS j) (xRow c r) (xsSlot j) hsrc hdst) cont) Q) := by
  unfold xFly xPart Owes xBlk
  iintro ⟨#Hlv, HF, ⟨%W, HO⟩⟩ Hk
  iapply (copy_wait 𝒱₀ (c : Thread nD τ) none (x_credit j)) $$ [HF HO]
  · isplitl [HF]; · iexact HF
    isplitl [HO]; · iexact HO
    iapply (mayWait (by rw [lvOf_xcp]) hO c); iexact Hlv
  iintro ⟨Hd, Hs, Hv, HO⟩
  iapply Hk
  isplitl [Hd]; · iexact Hd
  isplitl [Hs]; · iexact Hs
  isplitl [Hv]; · iexact Hv
  iexists _; iexact HO

theorem w_wait {Q : α → sProp 𝕄} (j : Fin 2) (r : Fin 4) (q : PosShare TreeShare) {O : CellTallies nD τ sig Unit} (hO : Above 0 O)
    {hsrc : (wRow c r).view.WordExact} {hdst : (wsSlot j).view.WordExact} {cont : PUnit → Prog (TpuEff nD τ sig (Elt F) Λ₀ .tc) α} :
    iprop(levAts L lv ∗ wFly m c j r q ∗ Owes c O : sProp 𝕄)
      ⊢ iprop((iprop(owns (c : Thread nD τ) (wsSlot j) fullShare (wBlk m c r) ∗ wPart m c q ∗ semVal ((c : Thread nD τ), .dma (wcpS j)) 0 ∗ Owes c O)
          -∗ wp frame (wpE (defs₀ (F := F)) 𝒱₀ (c : Thread nD τ) none) Set.univ (cont ⟨⟩) Q)
        -∗ wp frame (wpE (defs₀ (F := F)) 𝒱₀ (c : Thread nD τ) none) Set.univ (.op (.waitDma2 (wcpS j) (wRow c r) (wsSlot j) hsrc hdst) cont) Q) := by
  unfold wFly wPart Owes wBlk
  iintro ⟨#Hlv, HF, ⟨%W, HO⟩⟩ Hk
  iapply (copy_wait 𝒱₀ (c : Thread nD τ) none (w_credit j)) $$ [HF HO]
  · isplitl [HF]; · iexact HF
    isplitl [HO]; · iexact HO
    iapply (mayWait (by rw [lvOf_wcp]) hO c); iexact Hlv
  iintro ⟨Hd, Hs, Hv, HO⟩
  iapply Hk
  isplitl [Hd]; · iexact Hd
  isplitl [Hs]; · iexact Hs
  isplitl [Hv]; · iexact Hv
  iexists _; iexact HO

/-! ## The result's buffer and the scales -/

/-- The result's buffer at contents `f`, -/
def outPts (f : S1024x2048.Idx → Elt F .f32) : sProp 𝕄 := ((c : Thread nD τ).loc cc0_stg2_0) ↦{fullShare} f
/-- and the two scales' at theirs. -/
def sxPts (f : S1.Idx → Elt F .f32) : sProp 𝕄 := ((c : Thread nD τ).loc cc0_stg0_0) ↦{fullShare} f
def swPts (f : S1.Idx → Elt F .f32) : sProp 𝕄 := ((c : Thread nD τ).loc cc0_stg1_0) ↦{fullShare} f

theorem off_two : (![0, 0] : Fin 2 → ℕ) = fun _ => 0 := funext fun a => by fin_cases a <;> rfl
theorem off_one : (![0] : Fin 1 → ℕ) = fun _ => 0 := funext fun a => by fin_cases a; rfl

abbrev outR : Rect S1024x2048 := Rect.unit (s := S1024x2048) ![0, 0] S1024x2048.size inb_S1024x2048_S1024x2048_0_0

theorem out_load {Q : α → sProp 𝕄} {f : S1024x2048.Idx → Elt F .f32} {hl : outM.view.LoadsAt outR.toLoadRect}
    {cont : (outR.shape.Idx → Elt F .f32) → Prog (TpuEff nD τ sig (Elt F) Λ₀ .tc) α} :
    (outPts c f : sProp 𝕄)
      ⊢ iprop((outPts c f -∗ wp frame (wpE (defs₀ (F := F)) 𝒱₀ (c : Thread nD τ) none) Set.univ (cont f) Q)
        -∗ wp frame (wpE (defs₀ (F := F)) 𝒱₀ (c : Thread nD τ) none) Set.univ (.op (.load outM outR.toLoadRect hl) cont) Q) := by
  unfold outPts
  iintro H Hk
  iapply (wp_load 𝒱₀ (c : Thread nD τ) none Set.univ (m := outM) (Finset.subset_univ _)) $$ H
  rw [show outM.view.readAt (Elt F) outR.toLoadRect f = f from Memref.readAt_unit_zero (Elt F) cc0_stg2_0 off_two _ f]
  iexact Hk

theorem out_store {Q : α → sProp 𝕄} {f w v : S1024x2048.Idx → Elt F .f32} (hv : v = w) {hx : (outM.access outR).Stores Finset.univ}
    {hm : (Finset.univ : Finset outR.shape.Idx) = Finset.univ ∨ ∀ a, outR.stride a = 1} {cont : PUnit → Prog (TpuEff nD τ sig (Elt F) Λ₀ .tc) α} :
    (outPts c f : sProp 𝕄)
      ⊢ iprop((outPts c w -∗ wp frame (wpE (defs₀ (F := F)) 𝒱₀ (c : Thread nD τ) none) Set.univ (cont ⟨⟩) Q)
        -∗ wp frame (wpE (defs₀ (F := F)) 𝒱₀ (c : Thread nD τ) none) Set.univ (.op (.store outM outR v Finset.univ hx hm) cont) Q) := by
  subst hv
  unfold outPts
  iintro H Hk
  iapply (wp_store 𝒱₀ (c : Thread nD τ) none Set.univ (m := outM) (r := outR) (Mk := Finset.univ) (f := f) (Finset.subset_univ _)) $$ H
  rw [show (outM.access outR : View sig .tc _ _ _).write (Elt F) f v Finset.univ = v from
    Memref.write_access_unit_zero_univ (Elt F) cc0_stg2_0 off_two _ f v]
  iexact Hk

/-- The one element of a scale. -/
abbrev one0 : S1.Idx := Shape.Idx.first (s := S1) (by decide)
abbrev oneR : Rect S1 := Rect.unit (s := S1) ![0] S1.size inb_S1_S1_0

theorem sx_load {Q : Elt F .f32 → sProp 𝕄} {f : S1.Idx → Elt F .f32} {h1 : oneR.shape.numel = 1} {hp : EltTy.f32.packing = 1} :
    (sxPts c f : sProp 𝕄)
      ⊢ iprop((sxPts c f -∗ Q (f one0))
        -∗ wp frame (wpE (defs₀ (F := F)) 𝒱₀ (c : Thread nD τ) none) Set.univ (smemLoad sxM oneR h1 hp) Q) := by
  unfold sxPts smemLoad
  iintro H Hk
  iapply (wp_smemLoadElt 𝒱₀ (c : Thread nD τ) none Set.univ (m := sxM) (r := oneR) (Finset.subset_univ _)) $$ H
  rw [show (sxM.access oneR).read (Elt F) f = f from Memref.readAt_unit_zero (Elt F) cc0_stg0_0 off_one _ f, wp_ret]
  iintro H
  imodintro
  iapply Hk; iexact H

theorem sw_load {Q : Elt F .f32 → sProp 𝕄} {f : S1.Idx → Elt F .f32} {h1 : oneR.shape.numel = 1} {hp : EltTy.f32.packing = 1} :
    (swPts c f : sProp 𝕄)
      ⊢ iprop((swPts c f -∗ Q (f one0))
        -∗ wp frame (wpE (defs₀ (F := F)) 𝒱₀ (c : Thread nD τ) none) Set.univ (smemLoad swM oneR h1 hp) Q) := by
  unfold swPts smemLoad
  iintro H Hk
  iapply (wp_smemLoadElt 𝒱₀ (c : Thread nD τ) none Set.univ (m := swM) (r := oneR) (Finset.subset_univ _)) $$ H
  rw [show (swM.access oneR).read (Elt F) f = f from Memref.readAt_unit_zero (Elt F) cc0_stg1_0 off_one _ f, wp_ret]
  iintro H
  imodintro
  iapply Hk; iexact H

/-! ## What is stored -/

/-- The product of a converted block of `x` and a block of `w`, from zero. -/
def prodBlk (a : S1024x1024.Idx → Elt F .fp8e4m3) (w : S1024x2048.Idx → Elt F .f32) : S1024x2048.Idx → Elt F .f32 :=
  matmul dot_S1024x1024_S1024x2048_S1024x2048_1_0_0_1_n_n none a (truncf .fp8e5m2 w bitsLt_fp8e5m2_f32)
    (constant S1024x2048 .f32 0x00000000#32)

theorem shapeCast_back {γ : Type} {s s' : Shape} (h : s.ShapeCasts s') (h' : s'.ShapeCasts s) (u : s.Idx → γ) :
    shapeCast s (shapeCast s' u h) h' = u := by
  funext j; unfold shapeCast; rw [Shape.reshapeEquiv_reshapeEquiv, Shape.reshapeEquiv_self]
theorem shapeCast_same {γ : Type} {s : Shape} (h : s.ShapeCasts s) (u : s.Idx → γ) : shapeCast s u h = u := by
  funext j; unfold shapeCast; rw [Shape.reshapeEquiv_self]

/-- Each conversion stores the block converted. -/
theorem stored_conv (u : S1024x1024.Idx → Elt F .f32) :
    shapeCast S1024x1024 (k0_pay2 (F := F) (unsq squeezes_S1x1024x1024_S1024x1024 u)) shapeCasts_S1x1024x1024_S1024x1024
      = truncf .fp8e4m3 u bitsLt_fp8e4m3_f32 := by
  unfold k0_pay2; dsimp only
  rw [shapeCast_back, shapeCast_unsq]
/-- The first product, -/
theorem stored_first (a : S1024x1024.Idx → Elt F .fp8e4m3) (w : S1024x2048.Idx → Elt F .f32) :
    k0_pay6 (unsq squeezes_S1x1024x1024_S1024x1024 a) (unsq squeezes_S1x1024x2048_S1024x2048 w) = prodBlk a w := by
  unfold k0_pay6 prodBlk; dsimp only
  rw [shapeCast_unsq, shapeCast_unsq]
/-- and each later one added to what was there. -/
theorem stored_second (f : S1024x2048.Idx → Elt F .f32) (a : S1024x1024.Idx → Elt F .fp8e4m3) (w : S1024x2048.Idx → Elt F .f32) :
    k0_pay10 (k0_pay7 f) (k0_pay8 (unsq squeezes_S1x1024x1024_S1024x1024 a)) (k0_pay9 (unsq squeezes_S1x1024x2048_S1024x2048 w))
      = addf f (prodBlk a w) := by
  unfold k0_pay10 k0_pay7 k0_pay8 k0_pay9 prodBlk; dsimp only
  rw [shapeCast_unsq, shapeCast_unsq, shapeCast_same]
theorem stored_third (f : S1024x2048.Idx → Elt F .f32) (a : S1024x1024.Idx → Elt F .fp8e4m3) (w : S1024x2048.Idx → Elt F .f32) :
    k0_pay11 f (unsq squeezes_S1x1024x1024_S1024x1024 a) (unsq squeezes_S1x1024x2048_S1024x2048 w) = addf f (prodBlk a w) := by
  unfold k0_pay11 prodBlk; dsimp only
  rw [shapeCast_unsq, shapeCast_unsq, shapeCast_same]
theorem stored_fourth (f : S1024x2048.Idx → Elt F .f32) (a : S1024x1024.Idx → Elt F .fp8e4m3) (w : S1024x2048.Idx → Elt F .f32) :
    k0_pay12 f (unsq squeezes_S1x1024x1024_S1024x1024 a) (unsq squeezes_S1x1024x2048_S1024x2048 w) = addf f (prodBlk a w) :=
  stored_third f a w

/-! ## Loads and stores of the slots -/

/-- A load of a slot gives its block, a unit axis in front: of a staging slot of `x`, -/
theorem xs_load {Q : α → sProp 𝕄} (j : Fin 2) {u : S1024x1024.Idx → Elt F .f32}
    {hl : xsM.view.LoadsAt (Rect.unit (s := S2x1024x1024) ![j.val, 0, 0] S1x1024x1024.size (inb_slot j)).toLoadRect}
    {cont : (S1x1024x1024.Idx → Elt F .f32) → Prog (TpuEff nD τ sig (Elt F) Λ₀ .tc) α} :
    (owns (c : Thread nD τ) (xsSlot j) fullShare u : sProp 𝕄)
      ⊢ iprop((owns (c : Thread nD τ) (xsSlot j) fullShare u
          -∗ wp frame (wpE (defs₀ (F := F)) 𝒱₀ (c : Thread nD τ) none) Set.univ (cont (unsq squeezes_S1x1024x1024_S1024x1024 u)) Q)
        -∗ wp frame (wpE (defs₀ (F := F)) 𝒱₀ (c : Thread nD τ) none) Set.univ
          (.op (.load xsM (Rect.unit (s := S2x1024x1024) ![j.val, 0, 0] S1x1024x1024.size (inb_slot j)).toLoadRect hl) cont) Q) :=
  load_slot 𝒱₀ (c : Thread nD τ) none (m := xsM) (r := Rect.unit (s := S2x1024x1024) ![j.val, 0, 0] S1x1024x1024.size (inb_slot j))

/-- of one of `w`, -/
theorem ws_load {Q : α → sProp 𝕄} (j : Fin 2) {u : S1024x2048.Idx → Elt F .f32}
    {hl : wsM.view.LoadsAt (Rect.unit (s := S2x1024x2048) ![j.val, 0, 0] S1x1024x2048.size (inb_slot j)).toLoadRect}
    {cont : (S1x1024x2048.Idx → Elt F .f32) → Prog (TpuEff nD τ sig (Elt F) Λ₀ .tc) α} :
    (owns (c : Thread nD τ) (wsSlot j) fullShare u : sProp 𝕄)
      ⊢ iprop((owns (c : Thread nD τ) (wsSlot j) fullShare u
          -∗ wp frame (wpE (defs₀ (F := F)) 𝒱₀ (c : Thread nD τ) none) Set.univ (cont (unsq squeezes_S1x1024x2048_S1024x2048 u)) Q)
        -∗ wp frame (wpE (defs₀ (F := F)) 𝒱₀ (c : Thread nD τ) none) Set.univ
          (.op (.load wsM (Rect.unit (s := S2x1024x2048) ![j.val, 0, 0] S1x1024x2048.size (inb_slot j)).toLoadRect hl) cont) Q) :=
  load_slot 𝒱₀ (c : Thread nD τ) none (m := wsM) (r := Rect.unit (s := S2x1024x2048) ![j.val, 0, 0] S1x1024x2048.size (inb_slot j))

/-- of a converted block, -/
theorem x8_load {Q : α → sProp 𝕄} (j : Fin 4) {u : S1024x1024.Idx → Elt F .fp8e4m3}
    {hl : x8M.view.LoadsAt (Rect.unit (s := S4x1024x1024) ![j.val, 0, 0] S1x1024x1024.size (inb_slot j)).toLoadRect}
    {cont : (S1x1024x1024.Idx → Elt F .fp8e4m3) → Prog (TpuEff nD τ sig (Elt F) Λ₀ .tc) α} :
    (owns (c : Thread nD τ) (x8Slot j) fullShare u : sProp 𝕄)
      ⊢ iprop((owns (c : Thread nD τ) (x8Slot j) fullShare u
          -∗ wp frame (wpE (defs₀ (F := F)) 𝒱₀ (c : Thread nD τ) none) Set.univ (cont (unsq squeezes_S1x1024x1024_S1024x1024 u)) Q)
        -∗ wp frame (wpE (defs₀ (F := F)) 𝒱₀ (c : Thread nD τ) none) Set.univ
          (.op (.load x8M (Rect.unit (s := S4x1024x1024) ![j.val, 0, 0] S1x1024x1024.size (inb_slot j)).toLoadRect hl) cont) Q) :=
  load_slot 𝒱₀ (c : Thread nD τ) none (m := x8M) (r := Rect.unit (s := S4x1024x1024) ![j.val, 0, 0] S1x1024x1024.size (inb_slot j))

/-- and of a landing row. -/
theorem rv_load {Q : α → sProp 𝕄} (j : Fin 3) {u : S1024x1024.Idx → Elt F .fp8e4m3}
    {hl : rvM.view.LoadsAt (Rect.unit (s := S3x1024x1024) ![j.val, 0, 0] S1x1024x1024.size (inb_slot j)).toLoadRect}
    {cont : (S1x1024x1024.Idx → Elt F .fp8e4m3) → Prog (TpuEff nD τ sig (Elt F) Λ₀ .tc) α} :
    (owns (c : Thread nD τ) (rvSlot j) fullShare u : sProp 𝕄)
      ⊢ iprop((owns (c : Thread nD τ) (rvSlot j) fullShare u
          -∗ wp frame (wpE (defs₀ (F := F)) 𝒱₀ (c : Thread nD τ) none) Set.univ (cont (unsq squeezes_S1x1024x1024_S1024x1024 u)) Q)
        -∗ wp frame (wpE (defs₀ (F := F)) 𝒱₀ (c : Thread nD τ) none) Set.univ
          (.op (.load rvM (Rect.unit (s := S3x1024x1024) ![j.val, 0, 0] S1x1024x1024.size (inb_slot j)).toLoadRect hl) cont) Q) :=
  load_slot 𝒱₀ (c : Thread nD τ) none (m := rvM) (r := Rect.unit (s := S3x1024x1024) ![j.val, 0, 0] S1x1024x1024.size (inb_slot j))

/-- A converted block of `x` is loaded, unused, and stored. -/
theorem x8_conv {Q : α → sProp 𝕄} (j : Fin 4) {u : S1024x1024.Idx → Elt F .f32} {w : S1x1024x1024.Idx → Elt F .fp8e4m3}
    (hw : w = k0_pay2 (unsq squeezes_S1x1024x1024_S1024x1024 u))
    {hl : x8M.view.LoadsAt (Rect.unit (s := S4x1024x1024) ![j.val, 0, 0] S1x1024x1024.size (inb_slot j)).toLoadRect}
    {hx : (x8M.access (Rect.unit (s := S4x1024x1024) ![j.val, 0, 0] S1x1024x1024.size (inb_slot j))).Stores Finset.univ}
    {hm : (Finset.univ : Finset S1x1024x1024.Idx) = Finset.univ
      ∨ ∀ a, (Rect.unit (s := S4x1024x1024) ![j.val, 0, 0] S1x1024x1024.size (inb_slot j)).stride a = 1}
    {cont : PUnit → Prog (TpuEff nD τ sig (Elt F) Λ₀ .tc) α} :
    iprop(∃ u', owns (c : Thread nD τ) (x8Slot j) fullShare u' : sProp 𝕄)
      ⊢ iprop((owns (c : Thread nD τ) (x8Slot j) fullShare (truncf .fp8e4m3 u bitsLt_fp8e4m3_f32)
          -∗ wp frame (wpE (defs₀ (F := F)) 𝒱₀ (c : Thread nD τ) none) Set.univ (cont ⟨⟩) Q)
        -∗ wp frame (wpE (defs₀ (F := F)) 𝒱₀ (c : Thread nD τ) none) Set.univ
          (.op (.load x8M (Rect.unit (s := S4x1024x1024) ![j.val, 0, 0] S1x1024x1024.size (inb_slot j)).toLoadRect hl) fun _ =>
            .op (.store x8M (Rect.unit (s := S4x1024x1024) ![j.val, 0, 0] S1x1024x1024.size (inb_slot j)) w Finset.univ hx hm) cont) Q) := by
  iintro ⟨%u', H⟩ Hk
  iapply (x8_load c j) $$ H
  iintro H
  iapply (store_slot 𝒱₀ (c : Thread nD τ) none (m := x8M)
    (r := Rect.unit (s := S4x1024x1024) ![j.val, 0, 0] S1x1024x1024.size (inb_slot j)) (hc := shapeCasts_S1x1024x1024_S1024x1024)) $$ H
  rw [hw, show shapeCast S1024x1024 (k0_pay2 (F := F) (unsq squeezes_S1x1024x1024_S1024x1024 u)) shapeCasts_S1x1024x1024_S1024x1024
      = truncf .fp8e4m3 u bitsLt_fp8e4m3_f32 from stored_conv u]
  iexact Hk

/-! ## The sums -/

/-- The sum of the products after the own block and after each landed block, in the order they are added. -/
def acc0 (c : Dev nD) : S1024x2048.Idx → Elt F .f32 := prodBlk (x8Blk m c 0) (wBlk m c 0)
def acc1 (c : Dev nD) : S1024x2048.Idx → Elt F .f32 := addf (acc0 m c) (prodBlk (x8Blk m (behind 0 c) 1) (wBlk m c 1))
def acc2 (c : Dev nD) : S1024x2048.Idx → Elt F .f32 := addf (acc1 m c) (prodBlk (x8Blk m (behind 2 c) 3) (wBlk m c 3))
def acc3 (c : Dev nD) : S1024x2048.Idx → Elt F .f32 := addf (acc2 m c) (prodBlk (x8Blk m (behind 1 c) 2) (wBlk m c 2))
/-- The kernel's result on a device: the sum times the product of the two scales. -/
def result (c : Dev nD) (sx sw : S1.Idx → Elt F .f32) : S1024x2048.Idx → Elt F .f32 := k0_pay1 (acc3 m c) (sx one0) (sw one0)

end Cert.Exchange
-- ==== Proof.Parts.lean ====
/-
# The parts of the kernel's body

The body is printed in parts. For each: what it takes, and what it leaves to whatever runs after it.
-/
module

public import proofs.«01_k».proof.Proof.Steps

@[expose] public section

set_option maxRecDepth 65536

noncomputable section

namespace Cert.Exchange

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 7 → ℕ) (c : Dev nD)

/-- A run of a program on a device's core. -/
abbrev Run {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A semaphore of the device at zero, and a slot at any contents. -/
abbrev zero (sm : SemLoc sig) : sProp 𝕄 := semVal ((c : Thread nD τ), sm) 0
abbrev anyX (j : Fin 2) : sProp 𝕄 := iprop(∃ u, owns (c : Thread nD τ) (xsSlot j) fullShare u)
abbrev anyW (j : Fin 2) : sProp 𝕄 := iprop(∃ u, owns (c : Thread nD τ) (wsSlot j) fullShare u)
abbrev any8 (j : Fin 4) : sProp 𝕄 := iprop(∃ u, owns (c : Thread nD τ) (x8Slot j) fullShare u)
abbrev anyR (k : Fin 3) : sProp 𝕄 := iprop(∃ u, owns (c : Thread nD τ) (rvSlot k) fullShare u)
/-- A converted block in its slot, and a landing row at the block sent to it. -/
abbrev conv (j : Fin 4) (r : Fin 4) : sProp 𝕄 := owns (c : Thread nD τ) (x8Slot j) fullShare (x8Blk m c r)
abbrev landed (k : Fin 3) : sProp 𝕄 := owns (c : Thread nD τ) (rvSlot k) fullShare (x8Blk m (behind k c) k.succ)

/-- Every slot a block is sent from or lands in holds the same number of bytes. -/
theorem sent_credit (j : Fin 4) : (x8Slot j).view.dmaCredit = N := by fin_cases j <;> rfl
theorem landed_credit (k : Fin 3) : (rvSlot k).view.dmaCredit = N := by fin_cases k <;> rfl

theorem wp_ret' {α : Type} (a : α) (Q : α → sProp 𝕄) : Q a ⊢ Run c (.ret a) Q := by
  unfold Run; rw [wp_ret]
  iintro H
  imodintro
  iexact H

/-- A slot at a block is a slot at some block. -/
theorem any_intro {s : Shape} {e : EltTy} {M : Memref sig .tc .vmem s e} {u : s.Idx → Elt F e} :
    (owns (c : Thread nD τ) M fullShare u : sProp 𝕄) ⊢ iprop(∃ u, owns (c : Thread nD τ) M fullShare u) := by
  iintro H
  iexists u; iexact H

/-- The first two copies of `x` start, and the third receiver-side row is declared free. -/
theorem part1_run {Q : (Σ' (d0 : Dev nD) (v2 : BitVec 32), Sems sig S_) → sProp 𝕄} :
    iprop(records m K ∗ xPart m c fullShare.left ∗ anyX c 0 ∗ zero c (.dma (xcpS 0)) ∗ xPart m c fullShare.right
        ∗ anyX c 1 ∗ zero c (.dma (xcpS 1)) ∗ Owes c (O₀ c) ∗ dutyTok ER (barCell (behind 2 c)) 0 2 ∗ anyR c 2)
      ⊢ iprop((∀ v, iprop(xFly m c 0 1 fullShare.left ∗ xFly m c 1 3 fullShare.right ∗ Owes c (O₁ c + oweBar c 0 + oweBar c 1))
          -∗ Q ⟨c, v, SemArray.scalar (sig.barrier 0 rfl)⟩)
        -∗ Run c (k0_part1 xM (Memref.isWhole_whole _) wM (Memref.isWhole_whole _) sxM (Memref.isWhole_whole _) swM (Memref.isWhole_whole _)
            outM (Memref.isWhole_whole _) xsM (Memref.isWhole_whole _) x8M (Memref.isWhole_whole _) wsM (Memref.isWhole_whole _)
            rvM (Memref.isWhole_whole _) cc0_scratch4 cc0_scratch5 cc0_scratch6 cc0_scratch7) Q) := by
  rw [k0_part1_eq_skeleton]; unfold k0_part1_skel
  simp only [semSignalWord, semWaitWord, Prog.lift, Prog.bind_op, Prog.bind_ret, Prog.pure_eq_ret, wp_deviceId]
  iintro ⟨#HR, Hx0, Hs0, Hv0, Hx1, Hs1, Hv1, HO, Ht, Hrow⟩ Hk
  iapply (x_start m c 0 1 fullShare.left) $$ [Hx0 Hs0 Hv0]
  · isplitl [Hx0]; · iexact Hx0
    isplitl [Hs0]; · iexact Hs0
    iexact Hv0
  iintro Hf0
  iapply (x_start m c 1 3 fullShare.right) $$ [Hx1 Hs1 Hv1]
  · isplitl [Hx1]; · iexact Hx1
    isplitl [Hs1]; · iexact Hs1
    iexact Hv1
  iintro Hf1
  iapply (bar_signal m K c 2 (dev1_eq c) (O₁ c + oweBar c 0 + oweBar c 1)) $$ [HO Ht Hrow]
  · isplitr; · iexact HR
    isplitl [HO]; · iexact HO
    isplitl [Ht]; · iexact Ht
    iexact Hrow
  iintro HO
  iapply wp_ret'
  iapply Hk
  isplitl [Hf0]; · iexact Hf0
  isplitl [Hf1]; · iexact Hf1
  iexact HO

/-- The other two rows are declared free, the three receivers are awaited, and the first block of `x` is converted. -/
theorem part2_run (v : BitVec 32) {Q : PUnit → sProp 𝕄} :
    iprop(records m K ∗ levAts L lv ∗ Owes c (O₁ c + oweBar c 0 + oweBar c 1) ∗ dutyTok ER (barCell (behind 1 c)) 0 1
        ∗ anyR c 1 ∗ dutyTok ER (barCell (behind 0 c)) 0 0 ∗ anyR c 0 ∗ cred (tallyAt (barCell c) () 3)
        ∗ atPos ER (barCell c) 0 ∅ 0 ∗ xFly m c 0 1 fullShare.left ∗ any8 c 0)
      ⊢ iprop((iprop(Owes c (O₁ c) ∗ atPos ER (barCell c) 1 ∅ 0 ∗ (∃ u, owns (ahead 0 c : Thread nD τ) (rvSlot 0) fullShare u)
        ∗ (∃ u, owns (ahead 1 c : Thread nD τ) (rvSlot 1) fullShare u)
        ∗ (∃ u, owns (ahead 2 c : Thread nD τ) (rvSlot 2) fullShare u) ∗ anyX c 0 ∗ xPart m c fullShare.left
        ∗ zero c (.dma (xcpS 0)) ∗ conv m c 0 1)
          -∗ Q ⟨⟩)
        -∗ Run c (k0_part2 xM (Memref.isWhole_whole _) wM (Memref.isWhole_whole _) sxM (Memref.isWhole_whole _) swM (Memref.isWhole_whole _)
            outM (Memref.isWhole_whole _) xsM (Memref.isWhole_whole _) x8M (Memref.isWhole_whole _) wsM (Memref.isWhole_whole _)
            rvM (Memref.isWhole_whole _) cc0_scratch4 cc0_scratch5 cc0_scratch6 cc0_scratch7 c v (SemArray.scalar (sig.barrier 0 rfl))) Q) := by
  rw [k0_part2_eq_skeleton]; unfold k0_part2_skel
  simp only [semSignalWord, semWaitWord, Prog.lift, Prog.bind_op, Prog.bind_ret, Prog.pure_eq_ret]
  iintro ⟨#HR, #Hlv, HO, Ht1, Hr1, Ht0, Hr0, Hcr, Ha, Hf, H8⟩ Hk
  iapply (bar_signal m K c 1 (dev2_eq c) (O₁ c + oweBar c 0)) $$ [HO Ht1 Hr1]
  · isplitr; · iexact HR
    isplitl [HO]; · iexact HO
    isplitl [Ht1]; · iexact Ht1
    iexact Hr1
  iintro HO
  iapply (bar_signal m K c 0 (dev3_eq c) (O₁ c)) $$ [HO Ht0 Hr0]
  · isplitr; · iexact HR
    isplitl [HO]; · iexact HO
    isplitl [Ht0]; · iexact Ht0
    iexact Hr0
  iintro HO
  iapply (bar_wait m K c (above_O₁ c (by decide))) $$ [Hcr HO Ha]
  · isplitr; · iexact HR
    isplitr; · iexact Hlv
    isplitl [Hcr]; · iexact Hcr
    isplitl [HO]; · iexact HO
    iexact Ha
  iintro ⟨HO, Ha, Hd0, Hd1, Hd2⟩
  iapply (x_wait m c 0 1 fullShare.left (above_O₁ c (by decide))) $$ [Hf HO]
  · isplitr; · iexact Hlv
    isplitl [Hf]; · iexact Hf
    iexact HO
  iintro ⟨Hs, Hx, Hv, HO⟩
  iapply (xs_load c 0) $$ Hs
  iintro Hs
  iapply (x8_conv c 0 rfl) $$ H8
  iintro H8
  ihave Hs := (any_intro c) $$ Hs
  iapply wp_ret'
  iapply Hk
  isplitl [HO]; · iexact HO
  isplitl [Ha]; · iexact Ha
  isplitl [Hd0]; · iexact Hd0
  isplitl [Hd1]; · iexact Hd1
  isplitl [Hd2]; · iexact Hd2
  isplitl [Hs]; · iexact Hs
  isplitl [Hx]; · iexact Hx
  isplitl [Hv]; · iexact Hv
  iexact H8

/-- Two more copies start, and the first converted block is sent along lane 0. -/
theorem part3_run (v : BitVec 32) {Q : BitVec 32 → sProp 𝕄} :
    iprop(records m K ∗ xPart m c fullShare.left ∗ anyX c 0 ∗ zero c (.dma (xcpS 0)) ∗ wPart m c fullShare.left
        ∗ anyW c 0 ∗ zero c (.dma (wcpS 0)) ∗ conv m c 0 1
        ∗ (∃ u, owns (ahead 0 c : Thread nD τ) (rvSlot 0) fullShare u) ∗ Owes c (O₁ c) ∗ dutyTok ER (sendCell c 0) 0 0
        ∗ dutyTok ER (recvCell (ahead 0 c) 0) 0 0)
      ⊢ iprop((∀ u, iprop(xFly m c 0 2 fullShare.left ∗ wFly m c 0 0 fullShare.left ∗ cred (tallyAt (sendCell c 0) () N)
        ∗ Owes c (oweBlk c 1 + oweBlk c 2))
          -∗ Q u)
        -∗ Run c (k0_part3 xM (Memref.isWhole_whole _) wM (Memref.isWhole_whole _) sxM (Memref.isWhole_whole _) swM (Memref.isWhole_whole _)
            outM (Memref.isWhole_whole _) xsM (Memref.isWhole_whole _) x8M (Memref.isWhole_whole _) wsM (Memref.isWhole_whole _)
            rvM (Memref.isWhole_whole _) cc0_scratch4 cc0_scratch5 cc0_scratch6 cc0_scratch7 c v) Q) := by
  rw [k0_part3_eq_skeleton]; unfold k0_part3_skel
  simp only [semSignalWord, semWaitWord, Prog.lift, Prog.bind_op, Prog.bind_ret, Prog.pure_eq_ret]
  iintro ⟨#HR, Hx, Hs, Hv, Hw, Ht, Hu, H8, Hd, HO, HtS, HtR⟩ Hk
  iapply (x_start m c 0 2 fullShare.left) $$ [Hx Hs Hv]
  · isplitl [Hx]; · iexact Hx
    isplitl [Hs]; · iexact Hs
    iexact Hv
  iintro Hf
  iapply (w_start m c 0 0 fullShare.left) $$ [Hw Ht Hu]
  · isplitl [Hw]; · iexact Hw
    isplitl [Ht]; · iexact Ht
    iexact Hu
  iintro Hg
  iapply (lane_send m K c 0 (dev4_eq c) (oweBlk c 1 + oweBlk c 2) rfl) $$ [H8 Hd HO HtS HtR]
  · isplitr; · iexact HR
    isplitl [H8]; · iexact H8
    isplitl [Hd]; · iexact Hd
    isplitl [HO]; · iexact HO
    isplitl [HtS]; · iexact HtS
    iexact HtR
  iintro ⟨Hcr, HO⟩
  iapply wp_ret'
  iapply Hk
  isplitl [Hf]; · iexact Hf
  isplitl [Hg]; · iexact Hg
  isplitl [Hcr]; · iexact Hcr
  iexact HO

/-- The second block of `x` is converted, and two more copies start. -/
theorem part4_run (v : BitVec 32) {Q : (Σ' (v107 : BitVec 32), BitVec 32) → sProp 𝕄} :
    iprop(levAts L lv ∗ xFly m c 1 3 fullShare.right ∗ Owes c (oweBlk c 1 + oweBlk c 2) ∗ any8 c 1
        ∗ wPart m c fullShare.right ∗ anyW c 1 ∗ zero c (.dma (wcpS 1)))
      ⊢ iprop((∀ u, ∀ u', iprop(conv m c 1 3 ∗ xFly m c 1 0 fullShare.right ∗ wFly m c 1 1 fullShare.right ∗ Owes c (oweBlk c 1 + oweBlk c 2))
          -∗ Q ⟨u, u'⟩)
        -∗ Run c (k0_part4 xM (Memref.isWhole_whole _) wM (Memref.isWhole_whole _) sxM (Memref.isWhole_whole _) swM (Memref.isWhole_whole _)
            outM (Memref.isWhole_whole _) xsM (Memref.isWhole_whole _) x8M (Memref.isWhole_whole _) wsM (Memref.isWhole_whole _)
            rvM (Memref.isWhole_whole _) cc0_scratch4 cc0_scratch5 cc0_scratch6 cc0_scratch7 c v) Q) := by
  rw [k0_part4_eq_skeleton]; unfold k0_part4_skel
  simp only [semSignalWord, semWaitWord, Prog.lift, Prog.bind_op, Prog.bind_ret, Prog.pure_eq_ret]
  iintro ⟨#Hlv, Hf, HO, H8, Hw, Ht, Hu⟩ Hk
  iapply (x_wait m c 1 3 fullShare.right (above_two c (by decide))) $$ [Hf HO]
  · isplitr; · iexact Hlv
    isplitl [Hf]; · iexact Hf
    iexact HO
  iintro ⟨Hs, Hx, Hv, HO⟩
  iapply (xs_load c 1) $$ Hs
  iintro Hs
  iapply (x8_conv c 1 rfl) $$ H8
  iintro H8
  ihave Hs := (any_intro c) $$ Hs
  iapply (x_start m c 1 0 fullShare.right) $$ [Hx Hs Hv]
  · isplitl [Hx]; · iexact Hx
    isplitl [Hs]; · iexact Hs
    iexact Hv
  iintro Hf
  iapply (w_start m c 1 1 fullShare.right) $$ [Hw Ht Hu]
  · isplitl [Hw]; · iexact Hw
    isplitl [Ht]; · iexact Ht
    iexact Hu
  iintro Hg
  iapply wp_ret'
  iapply Hk
  isplitl [H8]; · iexact H8
  isplitl [Hf]; · iexact Hf
  isplitl [Hg]; · iexact Hg
  iexact HO

/-- The second converted block is sent along lane 2, and the third block of `x` is converted. -/
theorem part5_run (v v' v'' : BitVec 32) {Q : PUnit → sProp 𝕄} :
    iprop(records m K ∗ levAts L lv ∗ conv m c 1 3 ∗ (∃ u, owns (ahead 2 c : Thread nD τ) (rvSlot 2) fullShare u)
        ∗ Owes c (oweBlk c 1 + oweBlk c 2) ∗ dutyTok ER (sendCell c 2) 0 0 ∗ dutyTok ER (recvCell (ahead 2 c) 2) 0 0
        ∗ xFly m c 0 2 fullShare.left ∗ any8 c 2)
      ⊢ iprop((iprop(cred (tallyAt (sendCell c 2) () N) ∗ Owes c (oweBlk c 1) ∗ anyX c 0 ∗ xPart m c fullShare.left
        ∗ zero c (.dma (xcpS 0)) ∗ conv m c 2 2)
          -∗ Q ⟨⟩)
        -∗ Run c (k0_part5 xM (Memref.isWhole_whole _) wM (Memref.isWhole_whole _) sxM (Memref.isWhole_whole _) swM (Memref.isWhole_whole _)
            outM (Memref.isWhole_whole _) xsM (Memref.isWhole_whole _) x8M (Memref.isWhole_whole _) wsM (Memref.isWhole_whole _)
            rvM (Memref.isWhole_whole _) cc0_scratch4 cc0_scratch5 cc0_scratch6 cc0_scratch7 c v v' v'') Q) := by
  rw [k0_part5_eq_skeleton]; unfold k0_part5_skel
  simp only [semSignalWord, semWaitWord, Prog.lift, Prog.bind_op, Prog.bind_ret, Prog.pure_eq_ret]
  iintro ⟨#HR, #Hlv, H8, Hd, HO, HtS, HtR, Hf, Ht⟩ Hk
  iapply (lane_send m K c 2 (dev5_eq c) (oweBlk c 1) rfl) $$ [H8 Hd HO HtS HtR]
  · isplitr; · iexact HR
    isplitl [H8]; · iexact H8
    isplitl [Hd]; · iexact Hd
    isplitl [HO]; · iexact HO
    isplitl [HtS]; · iexact HtS
    iexact HtR
  iintro ⟨Hcr, HO⟩
  iapply (x_wait m c 0 2 fullShare.left (above_blk (by decide) c 1)) $$ [Hf HO]
  · isplitr; · iexact Hlv
    isplitl [Hf]; · iexact Hf
    iexact HO
  iintro ⟨Hs, Hx, Hv, HO⟩
  iapply (xs_load c 0) $$ Hs
  iintro Hs
  iapply (x8_conv c 2 rfl) $$ Ht
  iintro H8
  ihave Hs := (any_intro c) $$ Hs
  iapply wp_ret'
  iapply Hk
  isplitl [Hcr]; · iexact Hcr
  isplitl [HO]; · iexact HO
  isplitl [Hs]; · iexact Hs
  isplitl [Hx]; · iexact Hx
  isplitl [Hv]; · iexact Hv
  iexact H8

/-- The device's own block of `x` is converted, and its product is stored. -/
theorem part6_run (v : BitVec 32) {f : S1024x2048.Idx → Elt F .f32} {Q : (Σ' (v147 : BitVec 32), BitVec 32) → sProp 𝕄} :
    iprop(levAts L lv ∗ xFly m c 1 0 fullShare.right ∗ any8 c 3 ∗ wFly m c 0 0 fullShare.left ∗ outPts c f
        ∗ Owes c (oweBlk c 1))
      ⊢ iprop((∀ u, ∀ u', iprop(anyX c 1 ∗ xPart m c fullShare.right ∗ zero c (.dma (xcpS 1)) ∗ conv m c 3 0 ∗ anyW c 0
        ∗ wPart m c fullShare.left ∗ zero c (.dma (wcpS 0)) ∗ outPts c (acc0 m c) ∗ Owes c (oweBlk c 1))
          -∗ Q ⟨u, u'⟩)
        -∗ Run c (k0_part6 xM (Memref.isWhole_whole _) wM (Memref.isWhole_whole _) sxM (Memref.isWhole_whole _) swM (Memref.isWhole_whole _)
            outM (Memref.isWhole_whole _) xsM (Memref.isWhole_whole _) x8M (Memref.isWhole_whole _) wsM (Memref.isWhole_whole _)
            rvM (Memref.isWhole_whole _) cc0_scratch4 cc0_scratch5 cc0_scratch6 cc0_scratch7 c v) Q) := by
  rw [k0_part6_eq_skeleton]; unfold k0_part6_skel
  simp only [semSignalWord, semWaitWord, Prog.lift, Prog.bind_op, Prog.bind_ret, Prog.pure_eq_ret]
  iintro ⟨#Hlv, Hf, Ht, Hg, Ho, HO⟩ Hk
  iapply (x_wait m c 1 0 fullShare.right (above_blk (by decide) c 1)) $$ [Hf HO]
  · isplitr; · iexact Hlv
    isplitl [Hf]; · iexact Hf
    iexact HO
  iintro ⟨Hs, Hx, Hv, HO⟩
  iapply (xs_load c 1) $$ Hs
  iintro Hs
  iapply (x8_conv c 3 rfl) $$ Ht
  iintro H8
  iapply (w_wait m c 0 0 fullShare.left (above_blk (by decide) c 1)) $$ [Hg HO]
  · isplitr; · iexact Hlv
    isplitl [Hg]; · iexact Hg
    iexact HO
  iintro ⟨Ht, Hw, Hu, HO⟩
  iapply (x8_load c 3) $$ H8
  iintro H8
  iapply (ws_load c 0) $$ Ht
  iintro Ht
  iapply (out_load c) $$ Ho
  iintro Ho
  iapply (out_store c (w := acc0 m c) (stored_first _ _)) $$ Ho
  iintro Ho
  ihave Hs := (any_intro c) $$ Hs
  ihave Ht := (any_intro c) $$ Ht
  iapply wp_ret'
  iapply Hk
  isplitl [Hs]; · iexact Hs
  isplitl [Hx]; · iexact Hx
  isplitl [Hv]; · iexact Hv
  isplitl [H8]; · iexact H8
  isplitl [Ht]; · iexact Ht
  isplitl [Hw]; · iexact Hw
  isplitl [Hu]; · iexact Hu
  isplitl [Ho]; · iexact Ho
  iexact HO

/-- A copy of `w` starts, and the sends along lanes 0 and 2 are awaited. -/
theorem part7_run (v v' : BitVec 32) {Q : PUnit → sProp 𝕄} :
    iprop(records m K ∗ levAts L lv ∗ wPart m c fullShare.left ∗ anyW c 0 ∗ zero c (.dma (wcpS 0))
        ∗ cred (tallyAt (sendCell c 0) () N) ∗ atPos ER (sendCell c 0) 0 ∅ 0 ∗ cred (tallyAt (sendCell c 2) () N)
        ∗ atPos ER (sendCell c 2) 0 ∅ 0 ∗ Owes c (oweBlk c 1))
      ⊢ iprop((iprop(wFly m c 0 3 fullShare.left ∗ atPos ER (sendCell c 0) 1 ∅ 0 ∗ conv m c 0 1 ∗ atPos ER (sendCell c 2) 1 ∅ 0
        ∗ conv m c 1 3 ∗ Owes c (oweBlk c 1))
          -∗ Q ⟨⟩)
        -∗ Run c (k0_part7 xM (Memref.isWhole_whole _) wM (Memref.isWhole_whole _) sxM (Memref.isWhole_whole _) swM (Memref.isWhole_whole _)
            outM (Memref.isWhole_whole _) xsM (Memref.isWhole_whole _) x8M (Memref.isWhole_whole _) wsM (Memref.isWhole_whole _)
            rvM (Memref.isWhole_whole _) cc0_scratch4 cc0_scratch5 cc0_scratch6 cc0_scratch7 c v v') Q) := by
  rw [k0_part7_eq_skeleton]; unfold k0_part7_skel
  simp only [semSignalWord, semWaitWord, Prog.lift, Prog.bind_op, Prog.bind_ret, Prog.pure_eq_ret]
  iintro ⟨#HR, #Hlv, Hw, Ht, Hu, Hc0, Ha0, Hc2, Ha2, HO⟩ Hk
  iapply (w_start m c 0 3 fullShare.left) $$ [Hw Ht Hu]
  · isplitl [Hw]; · iexact Hw
    isplitl [Ht]; · iexact Ht
    iexact Hu
  iintro Hg
  iapply (send_wait m K c 0 (above_blk (by decide) c 1) (src := rvSlot 0) (dst := x8Slot 0) (sent_credit 0)) $$ [Hc0 HO Ha0]
  · isplitr; · iexact HR
    isplitr; · iexact Hlv
    isplitl [Hc0]; · iexact Hc0
    isplitl [HO]; · iexact HO
    iexact Ha0
  iintro ⟨HO, Ha0, H0⟩
  iapply (send_wait m K c 2 (above_blk (by decide) c 1) (src := rvSlot 2) (dst := x8Slot 1) (sent_credit 1)) $$ [Hc2 HO Ha2]
  · isplitr; · iexact HR
    isplitr; · iexact Hlv
    isplitl [Hc2]; · iexact Hc2
    isplitl [HO]; · iexact HO
    iexact Ha2
  iintro ⟨HO, Ha2, H2⟩
  iapply wp_ret'
  iapply Hk
  isplitl [Hg]; · iexact Hg
  isplitl [Ha0]; · iexact Ha0
  isplitl [H0]; · iexact H0
  isplitl [Ha2]; · iexact Ha2
  isplitl [H2]; · iexact H2
  iexact HO

/-- The third converted block is sent along lane 1, and the block landed along lane 0 is read. -/
theorem part8_run (v v' : BitVec 32) {Q : (Σ' (v213 : FVec F S1024x2048 .f32) (v215 : FVec F S1024x1024 .fp8e4m3), FVec F S1024x2048 .f32) → sProp 𝕄} :
    iprop(records m K ∗ levAts L lv ∗ conv m c 2 2 ∗ (∃ u, owns (ahead 1 c : Thread nD τ) (rvSlot 1) fullShare u)
        ∗ Owes c (oweBlk c 1) ∗ dutyTok ER (sendCell c 1) 0 0 ∗ dutyTok ER (recvCell (ahead 1 c) 1) 0 0
        ∗ wFly m c 1 1 fullShare.right ∗ cred (tallyAt (recvCell c 0) () N) ∗ atPos ER (recvCell c 0) 0 ∅ 0
        ∗ outPts c (acc0 m c))
      ⊢ iprop((iprop(cred (tallyAt (sendCell c 1) () N) ∗ Owes c 0 ∗ anyW c 1 ∗ wPart m c fullShare.right ∗ zero c (.dma (wcpS 1))
        ∗ atPos ER (recvCell c 0) 1 ∅ 0 ∗ landed m c 0 ∗ outPts c (acc0 m c))
          -∗ Q ⟨k0_pay7 (acc0 m c), k0_pay8 (unsq squeezes_S1x1024x1024_S1024x1024 (x8Blk m (behind 0 c) (0 : Fin 3).succ)), k0_pay9 (unsq squeezes_S1x1024x2048_S1024x2048 (wBlk m c 1))⟩)
        -∗ Run c (k0_part8 xM (Memref.isWhole_whole _) wM (Memref.isWhole_whole _) sxM (Memref.isWhole_whole _) swM (Memref.isWhole_whole _)
            outM (Memref.isWhole_whole _) xsM (Memref.isWhole_whole _) x8M (Memref.isWhole_whole _) wsM (Memref.isWhole_whole _)
            rvM (Memref.isWhole_whole _) cc0_scratch4 cc0_scratch5 cc0_scratch6 cc0_scratch7 c v v') Q) := by
  rw [k0_part8_eq_skeleton]; unfold k0_part8_skel
  simp only [semSignalWord, semWaitWord, Prog.lift, Prog.bind_op, Prog.bind_ret, Prog.pure_eq_ret]
  iintro ⟨#HR, #Hlv, H8, Hd, HO, HtS, HtR, Hg, Hc0, Ha0, Ho⟩ Hk
  iapply (lane_send m K c 1 (dev6_eq c) 0 (zero_add _).symm) $$ [H8 Hd HO HtS HtR]
  · isplitr; · iexact HR
    isplitl [H8]; · iexact H8
    isplitl [Hd]; · iexact Hd
    isplitl [HO]; · iexact HO
    isplitl [HtS]; · iexact HtS
    iexact HtR
  iintro ⟨Hcr, HO⟩
  iapply (w_wait m c 1 1 fullShare.right above_zero) $$ [Hg HO]
  · isplitr; · iexact Hlv
    isplitl [Hg]; · iexact Hg
    iexact HO
  iintro ⟨Ht, Hw, Hu, HO⟩
  iapply (recv_wait m K c 0 (src := x8Slot 0) (dst := rvSlot 0) (landed_credit 0)) $$ [Hc0 HO Ha0]
  · isplitr; · iexact HR
    isplitl [Hc0]; · iexact Hc0
    isplitl [HO]; · iexact HO
    iexact Ha0
  iintro ⟨HO, Ha0, H0⟩
  iapply (out_load c) $$ Ho
  iintro Ho
  iapply (rv_load c 0) $$ H0
  iintro H0
  iapply (ws_load c 1) $$ Ht
  iintro Ht
  ihave Ht := (any_intro c) $$ Ht
  iapply wp_ret'
  iapply Hk
  isplitl [Hcr]; · iexact Hcr
  isplitl [HO]; · iexact HO
  isplitl [Ht]; · iexact Ht
  isplitl [Hw]; · iexact Hw
  isplitl [Hu]; · iexact Hu
  isplitl [Ha0]; · iexact Ha0
  isplitl [H0]; · iexact H0
  iexact Ho

/-- Its product is added, a copy of `w` starts and another is awaited. -/
theorem part9_run (v v' : BitVec 32) {Q : PUnit → sProp 𝕄} :
    iprop(levAts L lv ∗ outPts c (acc0 m c) ∗ wPart m c fullShare.right ∗ anyW c 1 ∗ zero c (.dma (wcpS 1))
        ∗ wFly m c 0 3 fullShare.left ∗ Owes c 0)
      ⊢ iprop((iprop(outPts c (acc1 m c) ∗ wFly m c 1 2 fullShare.right ∗ owns (c : Thread nD τ) (wsSlot 0) fullShare (wBlk m c 3)
        ∗ wPart m c fullShare.left ∗ zero c (.dma (wcpS 0)) ∗ Owes c 0)
          -∗ Q ⟨⟩)
        -∗ Run c (k0_part9 xM (Memref.isWhole_whole _) wM (Memref.isWhole_whole _) sxM (Memref.isWhole_whole _) swM (Memref.isWhole_whole _)
            outM (Memref.isWhole_whole _) xsM (Memref.isWhole_whole _) x8M (Memref.isWhole_whole _) wsM (Memref.isWhole_whole _)
            rvM (Memref.isWhole_whole _) cc0_scratch4 cc0_scratch5 cc0_scratch6 cc0_scratch7 c v v' (k0_pay7 (acc0 m c))
            (k0_pay8 (unsq squeezes_S1x1024x1024_S1024x1024 (x8Blk m (behind 0 c) (0 : Fin 3).succ))) (k0_pay9 (unsq squeezes_S1x1024x2048_S1024x2048 (wBlk m c 1)))) Q) := by
  rw [k0_part9_eq_skeleton]; unfold k0_part9_skel
  simp only [semSignalWord, semWaitWord, Prog.lift, Prog.bind_op, Prog.bind_ret, Prog.pure_eq_ret]
  iintro ⟨#Hlv, Ho, Hw, Ht, Hu, Hg, HO⟩ Hk
  iapply (out_load c) $$ Ho
  iintro Ho
  iapply (out_store c (w := acc1 m c) (stored_second _ _ _)) $$ Ho
  iintro Ho
  iapply (w_start m c 1 2 fullShare.right) $$ [Hw Ht Hu]
  · isplitl [Hw]; · iexact Hw
    isplitl [Ht]; · iexact Ht
    iexact Hu
  iintro Hf
  iapply (w_wait m c 0 3 fullShare.left above_zero) $$ [Hg HO]
  · isplitr; · iexact Hlv
    isplitl [Hg]; · iexact Hg
    iexact HO
  iintro ⟨Ht, Hw, Hu, HO⟩
  iapply wp_ret'
  iapply Hk
  isplitl [Ho]; · iexact Ho
  isplitl [Hf]; · iexact Hf
  isplitl [Ht]; · iexact Ht
  isplitl [Hw]; · iexact Hw
  isplitl [Hu]; · iexact Hu
  iexact HO

/-- The block landed along lane 2 is multiplied and added, and the last copy of `w` is awaited. -/
theorem part10_run (v v' : BitVec 32) {Q : PUnit → sProp 𝕄} :
    iprop(records m K ∗ levAts L lv ∗ cred (tallyAt (recvCell c 2) () N) ∗ atPos ER (recvCell c 2) 0 ∅ 0
        ∗ outPts c (acc1 m c) ∗ owns (c : Thread nD τ) (wsSlot 0) fullShare (wBlk m c 3)
        ∗ wFly m c 1 2 fullShare.right ∗ Owes c 0)
      ⊢ iprop((iprop(outPts c (acc2 m c) ∗ atPos ER (recvCell c 2) 1 ∅ 0 ∗ landed m c 2 ∗ anyW c 0
        ∗ owns (c : Thread nD τ) (wsSlot 1) fullShare (wBlk m c 2) ∗ wPart m c fullShare.right
        ∗ zero c (.dma (wcpS 1)) ∗ Owes c 0)
          -∗ Q ⟨⟩)
        -∗ Run c (k0_part10 xM (Memref.isWhole_whole _) wM (Memref.isWhole_whole _) sxM (Memref.isWhole_whole _) swM (Memref.isWhole_whole _)
            outM (Memref.isWhole_whole _) xsM (Memref.isWhole_whole _) x8M (Memref.isWhole_whole _) wsM (Memref.isWhole_whole _)
            rvM (Memref.isWhole_whole _) cc0_scratch4 cc0_scratch5 cc0_scratch6 cc0_scratch7 c v v') Q) := by
  rw [k0_part10_eq_skeleton]; unfold k0_part10_skel
  simp only [semSignalWord, semWaitWord, Prog.lift, Prog.bind_op, Prog.bind_ret, Prog.pure_eq_ret]
  iintro ⟨#HR, #Hlv, Hc, Ha, Ho, Ht, Hf, HO⟩ Hk
  iapply (recv_wait m K c 2 (src := x8Slot 1) (dst := rvSlot 2) (landed_credit 2)) $$ [Hc HO Ha]
  · isplitr; · iexact HR
    isplitl [Hc]; · iexact Hc
    isplitl [HO]; · iexact HO
    iexact Ha
  iintro ⟨HO, Ha, H2⟩
  iapply (out_load c) $$ Ho
  iintro Ho
  iapply (rv_load c 2) $$ H2
  iintro H2
  iapply (ws_load c 0) $$ Ht
  iintro Ht
  iapply (out_load c) $$ Ho
  iintro Ho
  iapply (out_store c (w := acc2 m c) (stored_third _ _ _)) $$ Ho
  iintro Ho
  iapply (w_wait m c 1 2 fullShare.right above_zero) $$ [Hf HO]
  · isplitr; · iexact Hlv
    isplitl [Hf]; · iexact Hf
    iexact HO
  iintro ⟨Hs, Hw, Hu, HO⟩
  ihave Ht := (any_intro c) $$ Ht
  iapply wp_ret'
  iapply Hk
  isplitl [Ho]; · iexact Ho
  isplitl [Ha]; · iexact Ha
  isplitl [H2]; · iexact H2
  isplitl [Ht]; · iexact Ht
  isplitl [Hs]; · iexact Hs
  isplitl [Hw]; · iexact Hw
  isplitl [Hu]; · iexact Hu
  iexact HO

/-- What the whole run before the scaling takes, -/
def runIn (sx : S1.Idx → Elt F .f32) (f : S1024x2048.Idx → Elt F .f32) : sProp 𝕄 :=
  iprop(records m K ∗ levAts L lv ∗ xPart m c fullShare.left ∗ xPart m c fullShare.right ∗ wPart m c fullShare.left
        ∗ wPart m c fullShare.right ∗ anyX c 0 ∗ anyX c 1 ∗ anyW c 0 ∗ anyW c 1 ∗ any8 c 0 ∗ any8 c 1 ∗ any8 c 2
        ∗ any8 c 3 ∗ anyR c 0 ∗ anyR c 1 ∗ anyR c 2 ∗ zero c (.dma (xcpS 0)) ∗ zero c (.dma (xcpS 1))
        ∗ zero c (.dma (wcpS 0)) ∗ zero c (.dma (wcpS 1)) ∗ Owes c (O₀ c) ∗ cred (tallyAt (barCell c) () 3)
        ∗ cred (tallyAt (recvCell c 0) () N) ∗ cred (tallyAt (recvCell c 1) () N) ∗ cred (tallyAt (recvCell c 2) () N)
        ∗ atPos ER (barCell c) 0 ∅ 0 ∗ lane c 0 ∗ lane c 1 ∗ lane c 2 ∗ sxPts c sx ∗ outPts c f)
/-- and what it leaves. -/
def runOut (sx : S1.Idx → Elt F .f32) : sProp 𝕄 :=
  iprop(xPart m c fullShare.left ∗ xPart m c fullShare.right ∗ wPart m c fullShare.left ∗ wPart m c fullShare.right
        ∗ anyX c 0 ∗ anyX c 1 ∗ anyW c 0 ∗ anyW c 1 ∗ any8 c 0 ∗ any8 c 1 ∗ any8 c 2 ∗ any8 c 3 ∗ anyR c 0 ∗ anyR c 1
        ∗ anyR c 2 ∗ zero c (.dma (xcpS 0)) ∗ zero c (.dma (xcpS 1)) ∗ zero c (.dma (wcpS 0)) ∗ zero c (.dma (wcpS 1))
        ∗ Owes c 0 ∗ atPos ER (barCell c) 1 ∅ 0 ∗ atPos ER (sendCell c 0) 1 ∅ 0 ∗ atPos ER (sendCell c 1) 1 ∅ 0
        ∗ atPos ER (sendCell c 2) 1 ∅ 0 ∗ atPos ER (recvCell c 0) 1 ∅ 0 ∗ atPos ER (recvCell c 1) 1 ∅ 0
        ∗ atPos ER (recvCell c 2) 1 ∅ 0 ∗ sxPts c sx ∗ outPts c (acc3 m c))

/-- All of the body before the scaling. -/
theorem part11_run {sx : S1.Idx → Elt F .f32} {f : S1024x2048.Idx → Elt F .f32} {Q : (Σ' (v292 : FVec F S1024x2048 .f32), Elt F .f32) → sProp 𝕄} :
    (runIn m K c sx f : sProp 𝕄)
      ⊢ iprop((runOut m c sx -∗ Q ⟨k0_pay13 (acc3 m c), sx one0⟩)
        -∗ Run c (k0_part11 xM (Memref.isWhole_whole _) wM (Memref.isWhole_whole _) sxM (Memref.isWhole_whole _) swM (Memref.isWhole_whole _)
            outM (Memref.isWhole_whole _) xsM (Memref.isWhole_whole _) x8M (Memref.isWhole_whole _) wsM (Memref.isWhole_whole _)
            rvM (Memref.isWhole_whole _) cc0_scratch4 cc0_scratch5 cc0_scratch6 cc0_scratch7) Q) := by
  rw [k0_part11_eq_skeleton]; unfold k0_part11_skel runIn runOut lane Run
  iintro ⟨#HR, #Hlv, HxL, HxR, HwL, HwR, Hs0, Hs1, Ht0, Ht1, H80, H81, H82, H83, Hr0, Hr1, Hr2, Hv0, Hv1, Hu0, Hu1, HO, Hcb, Hcr0, Hcr1, Hcr2, Hab, ⟨Has0, Har0, Htb0, Hts0, Htr0⟩, ⟨Has1, Har1, Htb1, Hts1, Htr1⟩, ⟨Has2, Har2, Htb2, Hts2, Htr2⟩, Hsx, Ho⟩ Hk
  rw [wp_bind]
  iapply (part1_run m K c) $$ [HxL Hs0 Hv0 HxR Hs1 Hv1 HO Htb2 Hr2]
  · isplitr; · iexact HR
    isplitl [HxL]; · iexact HxL
    isplitl [Hs0]; · iexact Hs0
    isplitl [Hv0]; · iexact Hv0
    isplitl [HxR]; · iexact HxR
    isplitl [Hs1]; · iexact Hs1
    isplitl [Hv1]; · iexact Hv1
    isplitl [HO]; · iexact HO
    isplitl [Htb2]; · iexact Htb2
    iexact Hr2
  iintro %v ⟨Hf0, Hf1, HO⟩
  try dsimp only
  rw [wp_bind]
  iapply (part2_run m K c v) $$ [HO Htb1 Hr1 Htb0 Hr0 Hcb Hab Hf0 H80]
  · isplitr; · iexact HR
    isplitr; · iexact Hlv
    isplitl [HO]; · iexact HO
    isplitl [Htb1]; · iexact Htb1
    isplitl [Hr1]; · iexact Hr1
    isplitl [Htb0]; · iexact Htb0
    isplitl [Hr0]; · iexact Hr0
    isplitl [Hcb]; · iexact Hcb
    isplitl [Hab]; · iexact Hab
    isplitl [Hf0]; · iexact Hf0
    iexact H80
  iintro ⟨HO, Hab, Hd0, Hd1, Hd2, Hs0, HxL, Hv0, H80⟩
  try dsimp only
  rw [wp_bind]
  iapply (part3_run m K c v) $$ [HxL Hs0 Hv0 HwL Ht0 Hu0 H80 Hd0 HO Hts0 Htr0]
  · isplitr; · iexact HR
    isplitl [HxL]; · iexact HxL
    isplitl [Hs0]; · iexact Hs0
    isplitl [Hv0]; · iexact Hv0
    isplitl [HwL]; · iexact HwL
    isplitl [Ht0]; · iexact Ht0
    isplitl [Hu0]; · iexact Hu0
    isplitl [H80]; · iexact H80
    isplitl [Hd0]; · iexact Hd0
    isplitl [HO]; · iexact HO
    isplitl [Hts0]; · iexact Hts0
    iexact Htr0
  iintro %v64 ⟨Hf0, Hg0, Hcs0, HO⟩
  try dsimp only
  rw [wp_bind]
  iapply (part4_run m c v) $$ [Hf1 HO H81 HwR Ht1 Hu1]
  · isplitr; · iexact Hlv
    isplitl [Hf1]; · iexact Hf1
    isplitl [HO]; · iexact HO
    isplitl [H81]; · iexact H81
    isplitl [HwR]; · iexact HwR
    isplitl [Ht1]; · iexact Ht1
    iexact Hu1
  iintro %v107 %one ⟨H81, Hf1, Hg1, HO⟩
  try dsimp only
  rw [wp_bind]
  iapply (part5_run m K c v v107 one) $$ [H81 Hd2 HO Hts2 Htr2 Hf0 H82]
  · isplitr; · iexact HR
    isplitr; · iexact Hlv
    isplitl [H81]; · iexact H81
    isplitl [Hd2]; · iexact Hd2
    isplitl [HO]; · iexact HO
    isplitl [Hts2]; · iexact Hts2
    isplitl [Htr2]; · iexact Htr2
    isplitl [Hf0]; · iexact Hf0
    iexact H82
  iintro ⟨Hcs2, HO, Hs0, HxL, Hv0, H82⟩
  try dsimp only
  rw [wp_bind]
  iapply (part6_run m c v) $$ [Hf1 H83 Hg0 Ho HO]
  · isplitr; · iexact Hlv
    isplitl [Hf1]; · iexact Hf1
    isplitl [H83]; · iexact H83
    isplitl [Hg0]; · iexact Hg0
    isplitl [Ho]; · iexact Ho
    iexact HO
  iintro %v147 %v165 ⟨Hs1, HxR, Hv1, H83, Ht0, HwL, Hu0, Ho, HO⟩
  try dsimp only
  rw [wp_bind]
  iapply (part7_run m K c v147 v165) $$ [HwL Ht0 Hu0 Hcs0 Has0 Hcs2 Has2 HO]
  · isplitr; · iexact HR
    isplitr; · iexact Hlv
    isplitl [HwL]; · iexact HwL
    isplitl [Ht0]; · iexact Ht0
    isplitl [Hu0]; · iexact Hu0
    isplitl [Hcs0]; · iexact Hcs0
    isplitl [Has0]; · iexact Has0
    isplitl [Hcs2]; · iexact Hcs2
    isplitl [Has2]; · iexact Has2
    iexact HO
  iintro ⟨Hg0, Has0, H80, Has2, H81, HO⟩
  try dsimp only
  rw [wp_bind]
  iapply (part8_run m K c v v64) $$ [H82 Hd1 HO Hts1 Htr1 Hg1 Hcr0 Har0 Ho]
  · isplitr; · iexact HR
    isplitr; · iexact Hlv
    isplitl [H82]; · iexact H82
    isplitl [Hd1]; · iexact Hd1
    isplitl [HO]; · iexact HO
    isplitl [Hts1]; · iexact Hts1
    isplitl [Htr1]; · iexact Htr1
    isplitl [Hg1]; · iexact Hg1
    isplitl [Hcr0]; · iexact Hcr0
    isplitl [Har0]; · iexact Har0
    iexact Ho
  iintro ⟨Hcs1, HO, Ht1, HwR, Hu1, Har0, Hr0, Ho⟩
  try dsimp only
  rw [wp_bind]
  iapply (part9_run m c v v107) $$ [Ho HwR Ht1 Hu1 Hg0 HO]
  · isplitr; · iexact Hlv
    isplitl [Ho]; · iexact Ho
    isplitl [HwR]; · iexact HwR
    isplitl [Ht1]; · iexact Ht1
    isplitl [Hu1]; · iexact Hu1
    isplitl [Hg0]; · iexact Hg0
    iexact HO
  iintro ⟨Ho, Hg1, Ht0, HwL, Hu0, HO⟩
  try dsimp only
  rw [wp_bind]
  iapply (part10_run m K c v v147) $$ [Hcr2 Har2 Ho Ht0 Hg1 HO]
  · isplitr; · iexact HR
    isplitr; · iexact Hlv
    isplitl [Hcr2]; · iexact Hcr2
    isplitl [Har2]; · iexact Har2
    isplitl [Ho]; · iexact Ho
    isplitl [Ht0]; · iexact Ht0
    isplitl [Hg1]; · iexact Hg1
    iexact HO
  iintro ⟨Ho, Har2, Hr2, Ht0, Ht1, HwR, Hu1, HO⟩
  try dsimp only
  simp only [Prog.lift, Prog.bind_op, Prog.bind_ret, Prog.pure_eq_ret]
  iapply (recv_wait m K c 1 (src := x8Slot 2) (dst := rvSlot 1) (landed_credit 1)) $$ [Hcr1 HO Har1]
  · isplitr; · iexact HR
    isplitl [Hcr1]; · iexact Hcr1
    isplitl [HO]; · iexact HO
    iexact Har1
  iintro ⟨HO, Har1, Hr1⟩
  iapply (out_load c) $$ Ho
  iintro Ho
  iapply (rv_load c 1) $$ Hr1
  iintro Hr1
  iapply (ws_load c 1) $$ Ht1
  iintro Ht1
  iapply (out_load c) $$ Ho
  iintro Ho
  iapply (out_store c (w := acc3 m c) (stored_fourth _ _ _)) $$ Ho
  iintro Ho
  iapply (send_wait m K c 1 above_zero (src := rvSlot 1) (dst := x8Slot 2) (sent_credit 2)) $$ [Hcs1 HO Has1]
  · isplitr; · iexact HR
    isplitr; · iexact Hlv
    isplitl [Hcs1]; · iexact Hcs1
    isplitl [HO]; · iexact HO
    iexact Has1
  iintro ⟨HO, Has1, H82⟩
  iapply (out_load c) $$ Ho
  iintro Ho
  rw [wp_bind]
  iapply (sx_load c) $$ Hsx
  iintro Hsx
  ihave Ht1 := (any_intro c) $$ Ht1
  ihave H80 := (any_intro c) $$ H80
  ihave H81 := (any_intro c) $$ H81
  ihave H82 := (any_intro c) $$ H82
  ihave H83 := (any_intro c) $$ H83
  ihave Hr0 := (any_intro c) $$ Hr0
  ihave Hr1 := (any_intro c) $$ Hr1
  ihave Hr2 := (any_intro c) $$ Hr2
  iapply wp_ret'
  iapply Hk
  isplitl [HxL]; · iexact HxL
  isplitl [HxR]; · iexact HxR
  isplitl [HwL]; · iexact HwL
  isplitl [HwR]; · iexact HwR
  isplitl [Hs0]; · iexact Hs0
  isplitl [Hs1]; · iexact Hs1
  isplitl [Ht0]; · iexact Ht0
  isplitl [Ht1]; · iexact Ht1
  isplitl [H80]; · iexact H80
  isplitl [H81]; · iexact H81
  isplitl [H82]; · iexact H82
  isplitl [H83]; · iexact H83
  isplitl [Hr0]; · iexact Hr0
  isplitl [Hr1]; · iexact Hr1
  isplitl [Hr2]; · iexact Hr2
  isplitl [Hv0]; · iexact Hv0
  isplitl [Hv1]; · iexact Hv1
  isplitl [Hu0]; · iexact Hu0
  isplitl [Hu1]; · iexact Hu1
  isplitl [HO]; · iexact HO
  isplitl [Hab]; · iexact Hab
  isplitl [Has0]; · iexact Has0
  isplitl [Has1]; · iexact Has1
  isplitl [Has2]; · iexact Has2
  isplitl [Har0]; · iexact Har0
  isplitl [Har1]; · iexact Har1
  isplitl [Har2]; · iexact Har2
  isplitl [Hsx]; · iexact Hsx
  iexact Ho

/-- What the body leaves. -/
def runEnd (sx sw : S1.Idx → Elt F .f32) : sProp 𝕄 :=
  iprop(xPart m c fullShare.left ∗ xPart m c fullShare.right ∗ wPart m c fullShare.left ∗ wPart m c fullShare.right
        ∗ anyX c 0 ∗ anyX c 1 ∗ anyW c 0 ∗ anyW c 1 ∗ any8 c 0 ∗ any8 c 1 ∗ any8 c 2 ∗ any8 c 3 ∗ anyR c 0 ∗ anyR c 1
        ∗ anyR c 2 ∗ zero c (.dma (xcpS 0)) ∗ zero c (.dma (xcpS 1)) ∗ zero c (.dma (wcpS 0)) ∗ zero c (.dma (wcpS 1))
        ∗ Owes c 0 ∗ atPos ER (barCell c) 1 ∅ 0 ∗ atPos ER (sendCell c 0) 1 ∅ 0 ∗ atPos ER (sendCell c 1) 1 ∅ 0
        ∗ atPos ER (sendCell c 2) 1 ∅ 0 ∗ atPos ER (recvCell c 0) 1 ∅ 0 ∗ atPos ER (recvCell c 1) 1 ∅ 0
        ∗ atPos ER (recvCell c 2) 1 ∅ 0 ∗ sxPts c sx ∗ swPts c sw ∗ outPts c (result m c sx sw))

theorem scaled (sx sw : S1.Idx → Elt F .f32) : k0_pay1 (k0_pay13 (acc3 m c)) (sx one0) (sw one0) = result m c sx sw := by
  unfold result k0_pay13; dsimp only; rw [shapeCast_same]

/-- The body: the sum of the products, times the product of the two scales. -/
theorem body_run {sx sw : S1.Idx → Elt F .f32} {f : S1024x2048.Idx → Elt F .f32} {Q : PUnit → sProp 𝕄} :
    iprop(runIn m K c sx f ∗ swPts c sw : sProp 𝕄)
      ⊢ iprop((runEnd m c sx sw -∗ |={Set.univ}=> Q ⟨⟩)
        -∗ Run c (cc0_body xM (Memref.isWhole_whole _) wM (Memref.isWhole_whole _) sxM (Memref.isWhole_whole _) swM (Memref.isWhole_whole _)
            outM (Memref.isWhole_whole _) xsM (Memref.isWhole_whole _) x8M (Memref.isWhole_whole _) wsM (Memref.isWhole_whole _)
            rvM (Memref.isWhole_whole _) cc0_scratch4 cc0_scratch5 cc0_scratch6 cc0_scratch7) Q) := by
  rw [cc0_body_eq_skeleton]; unfold cc0_body_skel Run
  iintro ⟨Hin, Hsw⟩ Hk
  rw [wp_bind]
  iapply (part11_run m K c) $$ Hin
  iintro Hout
  dsimp only
  simp only [Prog.lift, Prog.bind_op, Prog.bind_ret, Prog.pure_eq_ret]
  unfold runOut
  icases Hout with ⟨HxL, HxR, HwL, HwR, Hs0, Hs1, Ht0, Ht1, H80, H81, H82, H83, Hr0, Hr1, Hr2, Hv0, Hv1, Hu0, Hu1, HO, Hab, Has0, Has1, Has2, Har0, Har1, Har2, Hsx, Ho⟩
  rw [wp_bind]
  iapply (sw_load c) $$ Hsw
  iintro Hsw
  try dsimp only
  iapply (out_load c) $$ Ho
  iintro Ho
  iapply (out_store c (w := result m c sx sw) (scaled m c sx sw)) $$ Ho
  iintro Ho
  rw [wp_ret]
  iapply Hk
  unfold runEnd
  isplitl [HxL]; · iexact HxL
  isplitl [HxR]; · iexact HxR
  isplitl [HwL]; · iexact HwL
  isplitl [HwR]; · iexact HwR
  isplitl [Hs0]; · iexact Hs0
  isplitl [Hs1]; · iexact Hs1
  isplitl [Ht0]; · iexact Ht0
  isplitl [Ht1]; · iexact Ht1
  isplitl [H80]; · iexact H80
  isplitl [H81]; · iexact H81
  isplitl [H82]; · iexact H82
  isplitl [H83]; · iexact H83
  isplitl [Hr0]; · iexact Hr0
  isplitl [Hr1]; · iexact Hr1
  isplitl [Hr2]; · iexact Hr2
  isplitl [Hv0]; · iexact Hv0
  isplitl [Hv1]; · iexact Hv1
  isplitl [Hu0]; · iexact Hu0
  isplitl [Hu1]; · iexact Hu1
  isplitl [HO]; · iexact HO
  isplitl [Hab]; · iexact Hab
  isplitl [Has0]; · iexact Has0
  isplitl [Has1]; · iexact Has1
  isplitl [Has2]; · iexact Has2
  isplitl [Har0]; · iexact Har0
  isplitl [Har1]; · iexact Har1
  isplitl [Har2]; · iexact Har2
  isplitl [Hsx]; · iexact Hsx
  isplitl [Hsw]; · iexact Hsw
  iexact Ho

end Cert.Exchange
-- ==== Proof.Buffers.lean ====
/-
# Scratch buffers and their slots

A scratch buffer is a stack of slots. Whole at any contents, it is each of its slots at some contents, and back.
-/
module

public import proofs.«01_k».proof.Proof.Parts

@[expose] public section

noncomputable section

namespace Cert.Exchange

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

section Stack

variable {n a b : ℕ} {cs : Space} {e : EltTy} (M : Memref sig .tc cs (⟨3, ![n, a, b]⟩ : Shape) e)
  {s' : Shape} (hq : (⟨3, ![1, a, b]⟩ : Shape).Squeezes s')

/-- Slot `j` of a stack, as a rectangle, and as a block on its own. -/
abbrev slotR (j : Fin n) : Rect (⟨3, ![n, a, b]⟩ : Shape) :=
  Rect.unit (s := ⟨3, ![n, a, b]⟩) ![j.val, 0, 0] (⟨3, ![1, a, b]⟩ : Shape).size (inb_slot j)
abbrev slotM (j : Fin n) : Memref sig .tc cs s' e := (M.slice (slotR j) (fun _ => rfl)).squeeze s' hq

theorem slot_disjoint (j j' : Fin n) (h : j ≠ j') : Disjoint (slotR (a := a) (b := b) j).set (slotR j').set :=
  Rect.unit_disjoint (0 : Fin 3) (by
    have : j.val ≠ j'.val := fun h' => h (Fin.ext h')
    show j.val + 1 ≤ j'.val ∨ j'.val + 1 ≤ j.val
    omega)

theorem slot_cover : (Finset.univ : Finset (Fin n)).biUnion (fun j => (slotR (a := a) (b := b) j).set) = Finset.univ := by
  ext i
  simp only [Finset.mem_biUnion, Finset.mem_univ, true_and, iff_true]
  refine ⟨i 0, Rect.mem_set_unit.mpr fun x => ?_⟩
  match x with
  | ⟨0, _⟩ => exact ⟨Nat.le_refl _, Nat.lt_succ_self _⟩
  | ⟨1, _⟩ => exact ⟨Nat.zero_le _, by simpa using (i 1).isLt⟩
  | ⟨2, _⟩ => exact ⟨Nat.zero_le _, by simpa using (i 2).isLt⟩

/-- A squeezed block held is the block held. -/
theorem owns_squeezed (j : Fin n) (u : s'.Idx → Elt F e) :
    (owns (c : Thread nD τ) (slotM M hq j) fullShare u : sProp 𝕄)
      ⊢ owns (c : Thread nD τ) (M.slice (slotR j) (fun _ => rfl)) fullShare (unsq hq u) := by
  unfold owns
  iintro ⟨%f, %hf, H⟩
  iexists f
  isplitr
  · ipureintro
    subst hf
    funext y
    exact congrArg ((M.slice (slotR j) (fun _ => rfl)).view.read (Elt F) f) (Equiv.apply_symm_apply (Shape.reshapeEquiv hq.numel_eq) y).symm
  rw [show (slotM M hq j).view.set = (M.slice (slotR j) (fun _ => rfl)).view.set from
    View.set_reshape (v := (M.slice (slotR j) (fun _ => rfl)).view) hq.numel_eq]
  iexact H

theorem owns_unsqueezed (j : Fin n) (w : (⟨3, ![1, a, b]⟩ : Shape).Idx → Elt F e) :
    (owns (c : Thread nD τ) (M.slice (slotR j) (fun _ => rfl)) fullShare w : sProp 𝕄)
      ⊢ iprop(∃ u, owns (c : Thread nD τ) (slotM M hq j) fullShare u) := by
  unfold owns
  iintro ⟨%f, -, H⟩
  iexists ((slotM M hq j).view.read (Elt F) f)
  iexists f
  isplitr
  · ipureintro; rfl
  rw [show (slotM M hq j).view.set = (M.slice (slotR j) (fun _ => rfl)).view.set from
    View.set_reshape (v := (M.slice (slotR j) (fun _ => rfl)).view) hq.numel_eq]
  iexact H

/-- A stack at any contents is its slots, each at some. -/
theorem stack_split (X : (⟨3, ![n, a, b]⟩ : Shape).Idx → Elt F e) :
    (owns (c : Thread nD τ) M fullShare X : sProp 𝕄)
      ⊢ bigSep Finset.univ fun j : Fin n => iprop(∃ u, owns (c : Thread nD τ) (slotM M hq j) fullShare u) :=
  (owns_rects (c : Thread nD τ) M fullShare slotR (fun _ _ => rfl) slot_disjoint slot_cover X).trans
    (bigSep_mono fun j _ => owns_unsqueezed c M hq j _)

/-- Blocks stacked, -/
def stacked (g : Fin n → (⟨3, ![1, a, b]⟩ : Shape).Idx → Elt F e) : (⟨3, ![n, a, b]⟩ : Shape).Idx → Elt F e := fun i =>
  g (i 0) fun x => match x with
    | ⟨0, _⟩ => ⟨0, Nat.one_pos⟩ | ⟨1, _⟩ => i 1 | ⟨2, _⟩ => i 2

/-- and what each slot of the stack holds. -/
theorem stacked_slot (g : Fin n → (⟨3, ![1, a, b]⟩ : Shape).Idx → Elt F e) (j : Fin n) :
    (fun y => stacked g ((slotR j).emb y)) = g j := by
  funext y
  have hy : (y 0).val < 1 := (y 0).isLt
  have h0 : (slotR (a := a) (b := b) j).emb y 0 = j := Fin.ext (by
    show j.val + 1 * (y 0).val = j.val
    omega)
  unfold stacked
  rw [h0]
  refine congrArg (g j) (funext fun x => ?_)
  match x with
  | ⟨0, _⟩ => exact Fin.ext (by show 0 = (y 0).val; omega)
  | ⟨1, _⟩ => exact Fin.ext (by show 0 + 1 * (y 1).val = (y 1).val; omega)
  | ⟨2, _⟩ => exact Fin.ext (by show 0 + 1 * (y 2).val = (y 2).val; omega)

/-- Slots, each at some contents, are the stack at some. -/
theorem stack_join :
    (bigSep Finset.univ fun j : Fin n => iprop(∃ u, owns (c : Thread nD τ) (slotM M hq j) fullShare u) : sProp 𝕄)
      ⊢ iprop(∃ X, owns (c : Thread nD τ) M fullShare X) := by
  iintro H
  ihave H := (BI.bigSep_exists_pi Finset.univ (fun (j : Fin n) u => (owns (c : Thread nD τ) (slotM M hq j) fullShare u : sProp 𝕄))) $$ H
  icases H with ⟨%g, H⟩
  ihave H := (show (bigSep Finset.univ fun j : Fin n => (owns (c : Thread nD τ) (slotM M hq j) fullShare (g j) : sProp 𝕄))
      ⊢ bigSep Finset.univ fun j : Fin n => owns (c : Thread nD τ) (M.slice (slotR j) (fun _ => rfl)) fullShare (unsq hq (g j)) from
    bigSep_mono fun j _ => owns_squeezed c M hq j (g j)) $$ H
  iexists (stacked fun j => unsq hq (g j))
  iapply (owns_of_rects (c : Thread nD τ) M fullShare slotR (fun _ _ => rfl) slot_disjoint slot_cover
    (stacked fun j => unsq hq (g j)))
  iapply (Entails.of_eq (bigSep_congr fun j _ => by rw [← stacked_slot (fun j => unsq hq (g j)) j])) $$ H

end Stack

theorem bigSep_two (Φ : Fin 2 → sProp 𝕄) : bigSep Finset.univ Φ = iprop(Φ 0 ∗ Φ 1) := bigSep_univ_eq_bigSepL [0, 1] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The staging slots of `x`, -/
theorem xs_split (f : Buf (Elt F) ((c : Thread nD τ).loc cc0_scratch0)) :
    ((((c : Thread nD τ).loc cc0_scratch0) ↦{fullShare} f) : sProp 𝕄) ⊢ iprop(anyX c 0 ∗ anyX c 1) := by
  rw [← owns_whole (c : Thread nD τ) cc0_scratch0 fullShare f]
  exact (stack_split c xsM squeezes_S1x1024x1024_S1024x1024 f).trans (Entails.of_eq (bigSep_two _))
theorem xs_join :
    (iprop(anyX c 0 ∗ anyX c 1) : sProp 𝕄) ⊢ iprop(∃ f : Buf (Elt F) ((c : Thread nD τ).loc cc0_scratch0), ((c : Thread nD τ).loc cc0_scratch0) ↦{fullShare} f) := by
  refine (Entails.of_eq (bigSep_two fun j => anyX c j).symm).trans ((stack_join c xsM squeezes_S1x1024x1024_S1024x1024).trans ?_)
  iintro ⟨%X, H⟩
  iexists X
  rw [← owns_whole (c : Thread nD τ) cc0_scratch0 fullShare X]
  iexact H

/-- the converted blocks, -/
theorem x8_split (f : Buf (Elt F) ((c : Thread nD τ).loc cc0_scratch1)) :
    ((((c : Thread nD τ).loc cc0_scratch1) ↦{fullShare} f) : sProp 𝕄) ⊢ iprop(any8 c 0 ∗ any8 c 1 ∗ any8 c 2 ∗ any8 c 3) := by
  rw [← owns_whole (c : Thread nD τ) cc0_scratch1 fullShare f]
  exact (stack_split c x8M squeezes_S1x1024x1024_S1024x1024 f).trans (Entails.of_eq (bigSep_four _))
theorem x8_join :
    (iprop(any8 c 0 ∗ any8 c 1 ∗ any8 c 2 ∗ any8 c 3) : sProp 𝕄) ⊢ iprop(∃ f : Buf (Elt F) ((c : Thread nD τ).loc cc0_scratch1), ((c : Thread nD τ).loc cc0_scratch1) ↦{fullShare} f) := by
  refine (Entails.of_eq (bigSep_four fun j => any8 c j).symm).trans ((stack_join c x8M squeezes_S1x1024x1024_S1024x1024).trans ?_)
  iintro ⟨%X, H⟩
  iexists X
  rw [← owns_whole (c : Thread nD τ) cc0_scratch1 fullShare X]
  iexact H

/-- the staging slots of `w` -/
theorem ws_split (f : Buf (Elt F) ((c : Thread nD τ).loc cc0_scratch2)) :
    ((((c : Thread nD τ).loc cc0_scratch2) ↦{fullShare} f) : sProp 𝕄) ⊢ iprop(anyW c 0 ∗ anyW c 1) := by
  rw [← owns_whole (c : Thread nD τ) cc0_scratch2 fullShare f]
  exact (stack_split c wsM squeezes_S1x1024x2048_S1024x2048 f).trans (Entails.of_eq (bigSep_two _))
theorem ws_join :
    (iprop(anyW c 0 ∗ anyW c 1) : sProp 𝕄) ⊢ iprop(∃ f : Buf (Elt F) ((c : Thread nD τ).loc cc0_scratch2), ((c : Thread nD τ).loc cc0_scratch2) ↦{fullShare} f) := by
  refine (Entails.of_eq (bigSep_two fun j => anyW c j).symm).trans ((stack_join c wsM squeezes_S1x1024x2048_S1024x2048).trans ?_)
  iintro ⟨%X, H⟩
  iexists X
  rw [← owns_whole (c : Thread nD τ) cc0_scratch2 fullShare X]
  iexact H

/-- and the landing rows. -/
theorem rv_split (f : Buf (Elt F) ((c : Thread nD τ).loc cc0_scratch3)) :
    ((((c : Thread nD τ).loc cc0_scratch3) ↦{fullShare} f) : sProp 𝕄) ⊢ iprop(anyR c 0 ∗ anyR c 1 ∗ anyR c 2) := by
  rw [← owns_whole (c : Thread nD τ) cc0_scratch3 fullShare f]
  exact (stack_split c rvM squeezes_S1x1024x1024_S1024x1024 f).trans (Entails.of_eq (bigSep_lanes _))
theorem rv_join :
    (iprop(anyR c 0 ∗ anyR c 1 ∗ anyR c 2) : sProp 𝕄) ⊢ iprop(∃ f : Buf (Elt F) ((c : Thread nD τ).loc cc0_scratch3), ((c : Thread nD τ).loc cc0_scratch3) ↦{fullShare} f) := by
  refine (Entails.of_eq (bigSep_lanes fun j => anyR c j).symm).trans ((stack_join c rvM squeezes_S1x1024x1024_S1024x1024).trans ?_)
  iintro ⟨%X, H⟩
  iexists X
  rw [← owns_whole (c : Thread nD τ) cc0_scratch3 fullShare X]
  iexact H

end Cert.Exchange
-- ==== Proof.Body.lean ====
/-
# The body, from what the launch gives a device to what it takes back
-/
module

public import proofs.«01_k».proof.Proof.Buffers
public import proofs.«01_k».proof.Proof.Gen.KernelIdeal.Points
public import Idealize.ShloMosaic.Lib.Pipeline.Launch
public import Idealize.ShloMosaic.Lib.Pipeline.Kit

@[expose] public section

set_option maxRecDepth 8000

noncomputable section

namespace Cert.Exchange

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 7 → ℕ) (c : Dev nD)

/-- The program starts with every counter at zero. -/
def s₀ : MemSt nD τ sig (Elt F) := ⟨m, fun _ => 0, ρ⟩

theorem N_one : cfg0.N = 1 := by decide
def t₀ : Fin cfg0.N := ⟨0, by rw [N_one]; decide⟩
theorem point_eq (t : Fin cfg0.N) : t = t₀ := by
  obtain ⟨t, ht⟩ := t; have := N_one; exact Fin.ext (by simp only [t₀]; omega)

/-- The two scales, as staged. -/
def sxAt (c : Dev nD) : S1.Idx → Elt F .f32 := (win0_0.blk (0 : Fin 1)).view.read (Elt F) (m ((c : Thread nD τ).loc main_arg2))
def swAt (c : Dev nD) : S1.Idx → Elt F .f32 := (win0_1.blk (0 : Fin 1)).view.read (Elt F) (m ((c : Thread nD τ).loc main_arg3))
/-- The kernel's result on a device. -/
def outAt (c : Dev nD) : S1024x2048.Idx → Elt F .f32 := result m c (sxAt m c) (swAt m c)

/-- The semaphores the kernel declares, in their order. -/
abbrev osem : Fin 10 → SemLoc sig := fun
  | 0 => .dma (xcpS 0) | 1 => .dma (xcpS 1) | 2 => .dma (wcpS 0) | 3 => .dma (wcpS 1)
  | 4 => .dma (sendS 0) | 5 => .dma (sendS 1) | 6 => .dma (sendS 2)
  | 7 => .dma (recvS 0) | 8 => .dma (recvS 1) | 9 => .dma (recvS 2)

/-- The semaphores of the local copies, at zero. -/
def localSems : sProp 𝕄 := iprop(zero c (.dma (xcpS 0)) ∗ zero c (.dma (xcpS 1)) ∗ zero c (.dma (wcpS 0)) ∗ zero c (.dma (wcpS 1)))
/-- The semaphores of the lanes, closed. -/
def laneSems : sProp 𝕄 := iprop(zero c (.dma (sendS 0)) ∗ zero c (.dma (sendS 1)) ∗ zero c (.dma (sendS 2))
  ∗ zero c (.dma (recvS 0)) ∗ zero c (.dma (recvS 1)) ∗ zero c (.dma (recvS 2)))

/-- The device's part of the exchange, and its local semaphores. -/
def ghost : sProp 𝕄 := iprop(records m K ∗ atPos ER (barCell c) 0 ∅ 0 ∗ lane c 0 ∗ lane c 1 ∗ lane c 2 ∗ localSems c)

/-- What the body starts from besides its buffers, -/
def start (c : Dev nD) : sProp 𝕄 :=
  iprop((∃ K, ghost m K c) ∗ (cred (tallyAt (barCell c) () 3) ∗ cred (tallyAt (recvCell c 0) () N) ∗ cred (tallyAt (recvCell c 1) () N) ∗ cred (tallyAt (recvCell c 2) () N))
    ∗ levAts L lv ∗ xPart m c fullShare ∗ wPart m c fullShare)

/-- its scratch buffers at any contents, -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scratch c)
/-- and what it ends at: `x` and `w` as they were, the scratch buffers, every semaphore at zero. -/
def Φ₁ (c : Dev nD) : sProp 𝕄 :=
  iprop((xPart m c fullShare ∗ wPart m c fullShare ∗ zero c (.reg barS)) ∗ localSems c ∗ laneSems c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sxAt m c
    | ⟨1, _⟩ => swAt m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer at contents `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost : sProp 𝕄 :=
  iprop(Φ₁ m c ∗ (dats m ρ 0 c).owesAt () t₀.succ ∗ stg c cc0_stg0_0 (sxAt m c) ∗ stg c cc0_stg1_0 (swAt m c) ∗ stg c cc0_stg2_0 (outAt m c))

/-- What the body starts from is what its run takes, -/
theorem pre_run (f : S1024x2048.Idx → Elt F .f32) :
    iprop(ghost m K c ∗ (cred (tallyAt (barCell c) () 3) ∗ cred (tallyAt (recvCell c 0) () N) ∗ cred (tallyAt (recvCell c 1) () N) ∗ cred (tallyAt (recvCell c 2) () N))
        ∗ levAts L lv ∗ xPart m c fullShare ∗ wPart m c fullShare ∗ scratch c ∗ Owes c (O₀ c) ∗ sxPts c (sxAt m c) ∗ outPts c f)
      ⊢ runIn m K c (sxAt m c) f := by
  unfold ghost localSems scratch runIn
  iintro ⟨⟨#HR, Hab, Hl0, Hl1, Hl2, Hv0, Hv1, Hu0, Hu1⟩, ⟨Hcb, Hcr0, Hcr1, Hcr2⟩, #Hlv, Hx, Hw, ⟨⟨%f0, Hb0⟩, ⟨%f1, Hb1⟩, ⟨%f2, Hb2⟩, ⟨%f3, Hb3⟩⟩, HO, Hsx, Ho⟩
  ihave Hx := (x_halves m c).1 $$ Hx
  icases Hx with ⟨HxL, HxR⟩
  ihave Hw := (w_halves m c).1 $$ Hw
  icases Hw with ⟨HwL, HwR⟩
  ihave Hb0 := (xs_split c f0) $$ Hb0
  icases Hb0 with ⟨Hs0, Hs1⟩
  ihave Hb1 := (x8_split c f1) $$ Hb1
  icases Hb1 with ⟨H80, H81, H82, H83⟩
  ihave Hb2 := (ws_split c f2) $$ Hb2
  icases Hb2 with ⟨Ht0, Ht1⟩
  ihave Hb3 := (rv_split c f3) $$ Hb3
  icases Hb3 with ⟨Hr0, Hr1, Hr2⟩
  isplitr; · iexact HR
  isplitr; · iexact Hlv
  isplitl [HxL]; · iexact HxL
  isplitl [HxR]; · iexact HxR
  isplitl [HwL]; · iexact HwL
  isplitl [HwR]; · iexact HwR
  isplitl [Hs0]; · iexact Hs0
  isplitl [Hs1]; · iexact Hs1
  isplitl [Ht0]; · iexact Ht0
  isplitl [Ht1]; · iexact Ht1
  isplitl [H80]; · iexact H80
  isplitl [H81]; · iexact H81
  isplitl [H82]; · iexact H82
  isplitl [H83]; · iexact H83
  isplitl [Hr0]; · iexact Hr0
  isplitl [Hr1]; · iexact Hr1
  isplitl [Hr2]; · iexact Hr2
  isplitl [Hv0]; · iexact Hv0
  isplitl [Hv1]; · iexact Hv1
  isplitl [Hu0]; · iexact Hu0
  isplitl [Hu1]; · iexact Hu1
  isplitl [HO]; · iexact HO
  isplitl [Hcb]; · iexact Hcb
  isplitl [Hcr0]; · iexact Hcr0
  isplitl [Hcr1]; · iexact Hcr1
  isplitl [Hcr2]; · iexact Hcr2
  isplitl [Hab]; · iexact Hab
  isplitl [Hl0]; · iexact Hl0
  isplitl [Hl1]; · iexact Hl1
  isplitl [Hl2]; · iexact Hl2
  isplitl [Hsx]; · iexact Hsx
  iexact Ho

/-- and what the run leaves is, the exchange closed, what the body ends at. -/
theorem run_post :
    iprop(records m K ∗ runEnd m c (sxAt m c) (swAt m c))
      ⊢ iprop(|={Set.univ}=> (Φ₁ m c ∗ Owes c 0 ∗ sxPts c (sxAt m c) ∗ swPts c (swAt m c) ∗ outPts c (outAt m c))) := by
  unfold runEnd Φ₁ localSems laneSems scratch outAt
  iintro ⟨#HR, HxL, HxR, HwL, HwR, Hs0, Hs1, Ht0, Ht1, H80, H81, H82, H83, Hr0, Hr1, Hr2, Hv0, Hv1, Hu0, Hu1, HO, Hab, Has0, Has1, Has2, Har0, Har1, Har2, Hsx, Hsw, Ho⟩
  imod (close_bar m K c) $$ [Hab] with HzB
  · isplitr; · iexact HR
    iexact Hab
  imod (close_send m K c 0) $$ [Has0] with HzS0
  · isplitr; · iexact HR
    iexact Has0
  imod (close_recv m K c 0) $$ [Har0] with HzR0
  · isplitr; · iexact HR
    iexact Har0
  imod (close_send m K c 1) $$ [Has1] with HzS1
  · isplitr; · iexact HR
    iexact Has1
  imod (close_recv m K c 1) $$ [Har1] with HzR1
  · isplitr; · iexact HR
    iexact Har1
  imod (close_send m K c 2) $$ [Has2] with HzS2
  · isplitr; · iexact HR
    iexact Has2
  imod (close_recv m K c 2) $$ [Har2] with HzR2
  · isplitr; · iexact HR
    iexact Har2
  imodintro
  isplitl [HxL HxR HwL HwR HzB Hv0 Hv1 Hu0 Hu1 HzS0 HzS1 HzS2 HzR0 HzR1 HzR2 Hs0 Hs1 H80 H81 H82 H83 Ht0 Ht1 Hr0 Hr1 Hr2]
  · isplitl [HxL HxR HwL HwR HzB]
    · isplitl [HxL HxR]
      · iapply (x_halves m c).2; isplitl [HxL] <;> iassumption
      isplitl [HwL HwR]
      · iapply (w_halves m c).2; isplitl [HwL] <;> iassumption
      iexact HzB
    isplitl [Hv0 Hv1 Hu0 Hu1]
    · isplitl [Hv0]; · iexact Hv0
      isplitl [Hv1]; · iexact Hv1
      isplitl [Hu0] <;> iassumption
    isplitl [HzS0 HzS1 HzS2 HzR0 HzR1 HzR2]
    · isplitl [HzS0]; · iexact HzS0
      isplitl [HzS1]; · iexact HzS1
      isplitl [HzS2]; · iexact HzS2
      isplitl [HzR0]; · iexact HzR0
      isplitl [HzR1] <;> iassumption
    isplitl [Hs0 Hs1]
    · iapply (xs_join c); isplitl [Hs0] <;> iassumption
    isplitl [H80 H81 H82 H83]
    · iapply (x8_join c)
      isplitl [H80]; · iexact H80
      isplitl [H81]; · iexact H81
      isplitl [H82] <;> iassumption
    isplitl [Ht0 Ht1]
    · iapply (ws_join c); isplitl [Ht0] <;> iassumption
    iapply (rv_join c)
    isplitl [Hr0]; · iexact Hr0
    isplitl [Hr1] <;> iassumption
  isplitl [HO]; · iexact HO
  isplitl [Hsx]; · iexact Hsx
  isplitl [Hsw] <;> iassumption

/-- The body on device `c`, at the pipeline's one point. -/
theorem sound_body :
    (bodyPre m ρ c : sProp 𝕄) ⊢ Run c (cc0_body xM (Memref.isWhole_whole _) wM (Memref.isWhole_whole _) sxM (Memref.isWhole_whole _) swM (Memref.isWhole_whole _)
            outM (Memref.isWhole_whole _) xsM (Memref.isWhole_whole _) x8M (Memref.isWhole_whole _) wsM (Memref.isWhole_whole _)
            rvM (Memref.isWhole_whole _) cc0_scratch4 cc0_scratch5 cc0_scratch6 cc0_scratch7) (fun _ => bodyPost m ρ c) := by
  unfold bodyPre Φ₀ start
  iintro ⟨⟨⟨⟨%K, Hg⟩, Hcr, Hlv, Hx, Hw⟩, Hscr⟩, Ho, ⟨%d0, %g0, %hg0, Hsx⟩, ⟨%d1, %g1, %hg1, Hsw⟩, ⟨%d2, %g2, %hg2, Hout⟩⟩
  have h0 : g0 = sxAt m c := by rw [hg0]; unfold Dat.before; rw [if_pos (fetch0_0 t₀)]; rfl
  have h1 : g1 = swAt m c := by rw [hg1]; unfold Dat.before; rw [if_pos (fetch0_1 t₀)]; rfl
  subst h0 h1
  unfold Dat.owesAt Pipeline.owesWithin
  icases Ho with ⟨%W, %hW, HO⟩
  rw [show (dats m ρ 0 c).owed t₀.castSucc = O₀ c from rfl]
  unfold ghost
  icases Hg with ⟨#HR, Hg⟩
  iapply (body_run m K c (sx := sxAt m c) (sw := swAt m c) (f := g2)) $$ [Hg Hcr Hlv Hx Hw Hscr HO Hsx Hsw Hout]
  · isplitr [Hsw]
    · iapply (pre_run m K c g2)
      isplitl [Hg]
      · unfold ghost
        isplitr; · iexact HR
        iexact Hg
      isplitl [Hcr]; · iexact Hcr
      isplitl [Hlv]; · iexact Hlv
      isplitl [Hx]; · iexact Hx
      isplitl [Hw]; · iexact Hw
      isplitl [Hscr]; · iexact Hscr
      isplitl [HO]
      · unfold Owes; iexists W; iexact HO
      isplitl [Hsx]; · unfold sxPts; iexact Hsx
      unfold outPts; iexact Hout
    unfold swPts; iexact Hsw
  iintro H
  imod (run_post m K c) $$ [H] with ⟨HΦ, HO, Hsx, Hsw, Hout⟩
  · isplitr; · iexact HR
    iexact H
  unfold bodyPost Dat.owesAt Pipeline.owesWithin Owes sxPts swPts outPts
  rw [show (dats m ρ 0 c).owed t₀.succ = 0 from rfl]
  icases HO with ⟨%W', HO⟩
  imodintro
  isplitl [HΦ]; · iexact HΦ
  isplitl [HO]
  · iexists W'
    isplitr; · ipureintro; exact fun _ _ => Or.inl trivial
    iexact HO
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

/-- The pipeline's obligation on the body. -/
theorem body_obligation : BodyObligation (dats (F := F) m ρ 0 c) (defs₀ (F := F)) 𝒱₀ () Set.univ := fun t => by
  rw [point_eq t, bigSep_W0, bigSep_W0]
  simp only [owns_whole_eq]
  exact sound_body m ρ c

end Cert.Exchange
-- ==== Proof.Alloc.lean ====
/-
# The ghost state at launch

Every device's seven cells are allocated at once, and the duty tokens dealt round the lanes.
-/
module

public import proofs.«01_k».proof.Proof.Body

@[expose] public section

set_option maxRecDepth 8000

noncomputable section

namespace Cert.Exchange

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem ownSemFacts : Pipeline.OwnSemFacts cfg0.spec osem := by decide

theorem csem_injective : Function.Injective csem := by decide
theorem kcell_injective : Function.Injective (kcell : Dev nD × Fin 7 → GSem nD τ sig) := fun a b h => by
  have h1 : a.1 = b.1 := congrArg (fun g : GSem nD τ sig => g.1.1) h
  have h2 : csem a.2 = csem b.2 := congrArg Prod.snd h
  exact Prod.ext h1 (csem_injective h2)
def allCells : Finset (GSem nD τ sig) := Finset.univ.map ⟨kcell, kcell_injective⟩

/-- The tokens as minted, by device, lane and kind: the lane's duty at the device's barrier, its send's, its receive's. -/
abbrev tokAt (kt : Fin 3 × Fin 3) : SemLoc sig × ℕ × Fin 3 := match kt.2 with
  | 0 => (.reg barS, 0, kt.1) | 1 => (.dma (sendS kt.1), 0, 0) | 2 => (.dma (recvS kt.1), 0, 0)
theorem tokAt_injective : Function.Injective tokAt := by decide
abbrev tokOf (a : Dev nD × (Fin 3 × Fin 3)) : GSem nD τ sig × ℕ × Fin 3 := (((a.1 : Thread nD τ), (tokAt a.2).1), (tokAt a.2).2)
theorem tokOf_injective : Function.Injective (tokOf : Dev nD × (Fin 3 × Fin 3) → GSem nD τ sig × ℕ × Fin 3) := fun a b h => by
  have h1 : a.1 = b.1 := congrArg (fun g : GSem nD τ sig × ℕ × Fin 3 => g.1.1.1) h
  have h2 : tokAt a.2 = tokAt b.2 :=
    Prod.ext (congrArg (fun g : GSem nD τ sig × ℕ × Fin 3 => g.1.2) h) (congrArg (fun g : GSem nD τ sig × ℕ × Fin 3 => g.2) h)
  exact Prod.ext h1 (tokAt_injective h2)
def allToks : Finset (GSem nD τ sig × ℕ × Fin 3) := Finset.univ.map ⟨tokOf, tokOf_injective⟩

def u₀ : UU :=
  (initOf (Pipeline.cells cfgs cellOf_inj) (Pipeline.launchToks cfgs cellOf_inj), (initOf allCells allToks, 1))

/-- The tokens of a device's own cells on a lane, -/
def ownToks (c : Dev nD) (k : Fin 3) : sProp 𝕄 :=
  iprop(dutyTok ER (barCell c) 0 k ∗ dutyTok ER (sendCell c k) 0 0 ∗ dutyTok ER (recvCell c k) 0 0)
/-- and of the duties it pays. -/
def payToks (c : Dev nD) (k : Fin 3) : sProp 𝕄 :=
  iprop(dutyTok ER (barCell (behind k c)) 0 k ∗ dutyTok ER (sendCell c k) 0 0 ∗ dutyTok ER (recvCell (ahead k c) k) 0 0)

/-- What the launch's element gives a device, -/
def G (c : Dev nD) : sProp 𝕄 :=
  iprop((bigSep Finset.univ fun j : Fin 7 => roundState ER (sched m) (kcell (c, j)) 0)
    ∗ (bigSep Finset.univ fun j : Fin 7 => iprop(atPos ER (kcell (c, j)) 0 ∅ 0 ∗ reached ER (kcell (c, j)) 0))
    ∗ bigSep Finset.univ (ownToks (F := F) c))
/-- and what it has once the cells stand. -/
def G' (c : Dev nD) : sProp 𝕄 := iprop(∃ K, ghost m K c)

theorem bigSep_seven {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The exchange's part of the launch element funds every cell. -/
theorem fund_cells : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun j : Fin 7 => Φ (kcell (c, j)) := by
    unfold allCells; rw [bigSep_map, bigSep_univ_prod]; rfl
  have hT : bigSep allToks (fun x => (dutyTok ER x.1 x.2.1 x.2.2 : sProp 𝕄))
      = bigSep Finset.univ fun c : Dev nD => bigSep Finset.univ (ownToks (F := F) c) := by
    unfold allToks; rw [bigSep_map, bigSep_univ_prod]
    exact bigSep_congr fun c _ => by
      rw [bigSep_univ_prod]
      exact bigSep_congr fun k _ => by unfold ownToks; rw [bigSep_lanes]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSems0_eq (c : Dev nD) :
    (Pipeline.ownSems0 (Ix := Unit) (Name := ℕ) (U := UU) (Lvl := ℕ) (Val := Elt F) (τ := τ) osem c : sProp 𝕄)
      = iprop(zero c (.dma (xcpS 0)) ∗ zero c (.dma (xcpS 1)) ∗ zero c (.dma (wcpS 0)) ∗ zero c (.dma (wcpS 1)) ∗ laneSems c) := by
  rw [Pipeline.ownSems0_eq_of_list c osem [0, 1, 2, 3, 4, 5, 6, 7, 8, 9] (by decide) (by decide)]; rfl
theorem unscopedSems0_eq (c : Dev nD) : (unscopedSems0 c : sProp 𝕄) = zero c (.reg barS) := by
  unfold unscopedSems0; rw [bigSep_eq_bigSepL_of_eq [SemLoc.reg barS] (by decide) (by decide)]; rfl

/-- A device's semaphores at zero: its seven cells' and the local copies'. -/
theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun j : Fin 7 => semVal (kcell (c, j)) 0) ∗ localSems c : sProp 𝕄) := by
  rw [ownSems0_eq, unscopedSems0_eq, bigSep_seven]
  unfold localSems laneSems
  iintro ⟨⟨H1, H2, H3, H4, Hl⟩, HB⟩
  isplitl [Hl HB]
  · isplitl [HB]; · iexact HB
    iexact Hl
  isplitl [H1]; · iexact H1
  isplitl [H2]; · iexact H2
  isplitl [H3] <;> iassumption

/-- What a device holds once its cells are allocated. -/
def cored (c : Dev nD) : sProp 𝕄 :=
  iprop((bigSep Finset.univ fun j : Fin 7 => iprop(∃ κ : ℕ, cellInv ER (sched m) κ (kcell (c, j))))
    ∗ (bigSep Finset.univ fun j : Fin 7 => iprop(atPos ER (kcell (c, j)) 0 ∅ 0 ∗ reached ER (kcell (c, j)) 0))
    ∗ bigSep Finset.univ (ownToks (F := F) c) ∗ localSems c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> cored m c := by
  unfold G cored
  iintro ⟨Hos, Hus, Hst, Hat, Htok⟩
  ihave Hv := (sems0_split (F := F) c) $$ [Hos Hus]
  · isplitl [Hos] <;> iassumption
  icases Hv with ⟨Hv, Hloc⟩
  imod (show iprop((bigSep Finset.univ fun j : Fin 7 => semVal (kcell (c, j)) 0) ∗ bigSep Finset.univ fun j : Fin 7 => roundState ER (sched m) (kcell (c, j)) 0)
      ⊢ (|={Set.univ}=> bigSep Finset.univ fun j : Fin 7 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens dealt along a lane: the barrier's to the receiver that frees the row, the receive's to the sender. -/
theorem lane_deal (k : Fin 3) :
    (bigSep Finset.univ fun c : Dev nD => (ownToks c k : sProp 𝕄)) ⊢ bigSep Finset.univ fun c : Dev nD => payToks c k := by
  unfold ownToks payToks
  rw [bigSep_sep', bigSep_sep', bigSep_sep', bigSep_sep',
    bigSep_univ_equiv (round k).symm (fun c : Dev nD => (dutyTok ER (barCell c) 0 k : sProp 𝕄)),
    bigSep_univ_equiv (round k) (fun c : Dev nD => (dutyTok ER (recvCell c k) 0 0 : sProp 𝕄))]
  exact Entails.of_eq rfl

theorem deal :
    (bigSep Finset.univ fun c : Dev nD => bigSep Finset.univ fun k : Fin 3 => (ownToks c k : sProp 𝕄))
      ⊢ bigSep Finset.univ fun c : Dev nD => bigSep Finset.univ fun k : Fin 3 => payToks c k := by
  simp only [bigSep_lanes, bigSep_sep']
  exact BI.sep_mono (lane_deal 0) (BI.sep_mono (lane_deal 1) (lane_deal 2))

/-- What stays with a device: its positions, the tokens it pays, its local semaphores. -/
def linear (c : Dev nD) : sProp 𝕄 :=
  iprop((bigSep Finset.univ fun j : Fin 7 => atPos ER (kcell (c, j)) 0 ∅ 0) ∗ (bigSep Finset.univ fun k : Fin 3 => payToks c k) ∗ localSems c)

theorem ghost_intro (K : Dev nD × Fin 7 → ℕ) (c : Dev nD) : iprop(records m K ∗ linear c) ⊢ G' m c := by
  unfold linear G' ghost lane payToks
  rw [bigSep_seven, bigSep_lanes]
  iintro ⟨#HR, ⟨HB, HS0, HS1, HS2, HV0, HV1, HV2⟩, ⟨⟨A0, B0, C0⟩, ⟨A1, B1, C1⟩, ⟨A2, B2, C2⟩⟩, Hloc⟩
  iexists K
  isplitr; · iexact HR
  isplitl [HB]; · iexact HB
  isplitl [HS0 HV0 A0 B0 C0]
  · isplitl [HS0]; · iexact HS0
    isplitl [HV0]; · iexact HV0
    isplitl [A0]; · iexact A0
    isplitl [B0] <;> iassumption
  isplitl [HS1 HV1 A1 B1 C1]
  · isplitl [HS1]; · iexact HS1
    isplitl [HV1]; · iexact HV1
    isplitl [A1]; · iexact A1
    isplitl [B1] <;> iassumption
  isplitl [HS2 HV2 A2 B2 C2]
  · isplitl [HS2]; · iexact HS2
    isplitl [HV2]; · iexact HV2
    isplitl [A2]; · iexact A2
    isplitl [B2] <;> iassumption
  iexact Hloc

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ (cored m) : sProp 𝕄) ⊢ bigSep Finset.univ (G' m) := by
  unfold cored
  rw [bigSep_sep', bigSep_sep', bigSep_sep', ← bigSep_univ_prod (fun cj : Dev nD × Fin 7 => iprop(∃ κ : ℕ, cellInv ER (sched m) κ (kcell cj))),
    bigSep_congr (s := Finset.univ) (fun (c : Dev nD) _ => bigSep_sep' Finset.univ (fun j : Fin 7 => (atPos ER (kcell (c, j)) 0 ∅ 0 : sProp 𝕄)) (fun j => reached ER (kcell (c, j)) 0)),
    bigSep_sep', ← bigSep_univ_prod (fun cj : Dev nD × Fin 7 => (reached ER (kcell cj) 0 : sProp 𝕄))]
  iintro ⟨HI, ⟨Hat, #HR⟩, Htok, Hloc⟩
  ihave HK := (BI.bigSep_exists_pi Finset.univ (fun (cj : Dev nD × Fin 7) (κ : ℕ) => (cellInv ER (sched m) κ (kcell cj) : sProp 𝕄))) $$ HI
  icases HK with ⟨%K, #HI⟩
  ihave Htk := (deal (F := F)) $$ Htok
  iapply (with_persistent (R := records m K) fun c _ => ghost_intro m K c)
  isplitr
  · unfold records; isplitl; · iexact HI
    iexact HR
  · unfold linear
    rw [bigSep_sep', bigSep_sep']
    isplitl [Hat]; · iexact Hat
    isplitl [Htk]; · iexact Htk
    iexact Hloc

/-- Every device's cells allocated under one update. -/
theorem alloc_all :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-- The launch element's two parts that are spent. -/
theorem u₀_split : (ownU u₀ : sProp 𝕄)
    ⊢ iprop(BI.own (EP (F := F) (initOf (Pipeline.cells cfgs cellOf_inj) (Pipeline.launchToks cfgs cellOf_inj))) ∗ BI.own (ER (initOf allCells allToks))) := by
  unfold u₀
  iintro Hu
  ihave H := (ownU_pair _ _) $$ Hu
  icases H with ⟨HP, HX⟩
  isplitl [HP]; · iexact HP
  iexact HX

end Cert.Exchange
-- ==== Proof.Launch.lean ====
/-
# The launch: the kernel's run on the mesh of four devices
-/
module

public import proofs.«01_k».proof.Proof.Alloc
public import Idealize.ShloMosaic.Lib.Pipeline.CollectiveSegs

@[expose] public section

set_option maxRecDepth 8000

noncomputable section

namespace Cert.Exchange

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the devices owe each cell together -/

theorem recvS_injective : Function.Injective (recvS : Fin 3 → DmaSem sig) := by decide
theorem recv_ne_bar (k : Fin 3) : (SemLoc.dma (recvS k) : SemLoc sig) ≠ .reg barS := by revert k; decide

theorem bar_owed_by (d c : Dev nD) (k : Fin 3) : oweBar d k (barCell c) () = if d = ahead k c then 1 else 0 := by
  rw [tallyAt_apply]
  by_cases h : d = ahead k c
  · subst h; rw [behind_ahead, if_pos ⟨rfl, rfl⟩, if_pos rfl]
  · refine (if_neg fun h' => h ?_).trans (if_neg h).symm
    have hc : c = behind k d := congrArg (fun g : GSem nD τ sig => g.1.1) h'.1
    rw [hc, ahead_behind]
theorem blk_at_bar (d c : Dev nD) (k : Fin 3) (n : ℕ) :
    (tallyAt (recvCell (ahead k d) k) () n : CellTallies nD τ sig Unit) (barCell c) () = 0 := by
  rw [tallyAt_ne_cell fun h => recv_ne_bar k (congrArg Prod.snd h).symm]; rfl
theorem bar_at_recv (d c : Dev nD) (j k : Fin 3) : oweBar d j (recvCell c k) () = 0 := by
  unfold oweBar; rw [tallyAt_ne_cell fun h => recv_ne_bar k (congrArg Prod.snd h)]; rfl
theorem blk_owed_by (d c : Dev nD) (j k : Fin 3) (n : ℕ) :
    (tallyAt (recvCell (ahead j d) j) () n : CellTallies nD τ sig Unit) (recvCell c k) () = if j = k then (if d = behind k c then n else 0) else 0 := by
  rw [tallyAt_apply]
  by_cases hj : j = k
  · subst hj
    rw [if_pos rfl]
    by_cases h : d = behind j c
    · subst h; rw [ahead_behind, if_pos ⟨rfl, rfl⟩, if_pos rfl]
    · refine (if_neg fun h' => h ?_).trans (if_neg h).symm
      have hc : c = ahead j d := congrArg (fun g : GSem nD τ sig => g.1.1) h'.1
      rw [hc, behind_ahead]
  · refine (if_neg fun h' => hj ?_).trans (if_neg hj).symm
    have hs : (SemLoc.dma (recvS k) : SemLoc sig) = .dma (recvS j) := congrArg Prod.snd h'.1
    exact (recvS_injective (SemLoc.dma.inj hs)).symm

theorem owed_bar (d c : Dev nD) :
    O₀ d (barCell c) () = (if d = ahead 0 c then 1 else 0) + (if d = ahead 1 c then 1 else 0) + (if d = ahead 2 c then 1 else 0) := by
  unfold O₀ O₁ oweBlk
  generalize N = n
  simp only [Pi.add_apply, Finsupp.add_apply, blk_at_bar, bar_owed_by, Nat.zero_add]
theorem owed_recv (d c : Dev nD) (k : Fin 3) : O₀ d (recvCell c k) () = if d = behind k c then N else 0 := by
  unfold O₀ O₁ oweBlk
  generalize N = n
  simp only [Pi.add_apply, Finsupp.add_apply, blk_owed_by, bar_at_recv, Nat.add_zero]
  fin_cases k <;> simp

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq', Finset.sum_ite_eq', Finset.sum_ite_eq', if_pos (Finset.mem_univ _), if_pos (Finset.mem_univ _), if_pos (Finset.mem_univ _)]
theorem credit_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq', if_pos (Finset.mem_univ _)]

/-- A device's launch credit: its barrier's three units and a block's credit a lane. -/
theorem creds (c : Dev nD) : (Pipeline.launchCred O₀ c : sProp 𝕄)
    ⊢ iprop(cred (tallyAt (barCell c) () 3) ∗ cred (tallyAt (recvCell c 0) () N) ∗ cred (tallyAt (recvCell c 1) () N) ∗ cred (tallyAt (recvCell c 2) () N)) := by
  unfold Pipeline.launchCred
  refine BI.Entails.trans (BI.bigSep_subset (Finset.subset_univ ({.reg barS, .dma (recvS 0), .dma (recvS 1), .dma (recvS 2)} : Finset (SemLoc sig)))) ?_
  rw [bigSep_insert (by decide), bigSep_insert (by decide), bigSep_insert (by decide), bigSep_singleton, credit_bar, credit_recv, credit_recv, credit_recv]
  exact BI.Entails.refl _

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' xPart wPart
  iintro ⟨⟨Hx, Hw⟩, Hlev, Hcr, -, HG⟩
  ihave Hc := (creds (F := F) c) $$ Hcr
  imodintro
  isplitl
  · isplitl [HG]; · iexact HG
    isplitl [Hc]; · iexact Hc
    isplitl [Hlev]; · iexact Hlev
    isplitl [Hx] <;> iassumption
  · iempintro

theorem phi_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- What a device still holds outside the region when it is done. -/
def kept (c : Dev nD) : sProp 𝕄 := iprop(unscopedSems0 c ∗ xPart m c fullShare ∗ wPart m c fullShare)

theorem phi_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ kept localSems scratch
  rw [unscopedSems0_eq]
  iintro ⟨⟨Hx, Hw, HB⟩, ⟨H1, H2, H3, H4⟩, Hl, Hs⟩
  isplitl [Hx Hw HB]
  · isplitl [HB]; · iexact HB
    isplitl [Hx] <;> iassumption
  isplitl [H1 H2 H3 H4 Hl]
  · isplitl [H1]; · iexact H1
    isplitl [H2]; · iexact H2
    isplitl [H3]; · iexact H3
    isplitl [H4] <;> iassumption
  iexact Hs

/-- What is read of the final state outside the windows' arrays. -/
def Kept (c : Dev nD) (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0)
    ∧ s.mem ((c : Thread nD τ).loc main_arg1) = m ((c : Thread nD τ).loc main_arg1)

theorem kept_read (c : Dev nD) (s' : Phys nD τ sig (Elt F)) :
    iprop(kept m c ∗ emp ∗ SI s' : sProp 𝕄) ⊢ |={Set.univ}=> iprop(⌜Kept m c s'.mem⌝ ∗ SI s') := by
  unfold kept xPart wPart
  iintro ⟨⟨Hu, Hx, Hw⟩, -, HSI⟩
  imod (Pipeline.unscopedSems0_read (X := unscopedSems0 c) (c := c) fupd_intro s') $$ [Hu HSI] with ⟨%hs, HSI⟩
  · isplitl [Hu] <;> iassumption
  icombine HSI Hx gives %hx
  icombine HSI Hw gives %hw
  imodintro
  isplitr
  · ipureintro
    exact ⟨hs, Buf.eq_of_forall_mem_univ hx, Buf.eq_of_forall_mem_univ hw⟩
  iexact HSI

theorem waits (c : Dev nD) : (levAts L lv : sProp 𝕄) ⊢ Pipeline.cellsWaits cfgs (dats m ρ) () 0 c :=
  Pipeline.cellsWaits_intro cfgs (dats m ρ) () 0 c fun w s t =>
    mayWait (a := 0) (by fin_cases w <;> fin_cases s <;> decide) (by
      rcases t with ⟨_ | _, ht⟩
      · exact above_O₀ c
      · exact above_zero) c

/-! ## The run -/

def finalA (c : Dev nD) (w : Fin cfg0.W) : Buf (Elt F) ((cfg0.win w).arr.view.loc (c : Thread nD τ)) := (dats m ρ 0 c).arrAt w cfg0.N

/-- At the mesh of four devices, for any float values, from any memory with zero counters: every weakly fair execution
    of @main terminates, the windows' arrays end at the computed contents, `x` and `w` as they were and every semaphore
    counter at zero. -/
theorem run_region : θ_run defs (onTc (τ := τ) (main (F := F))) (s₀ m ρ) (fun r =>
    (∀ c : Dev nD, (∀ w : Fin cfg0.W, r.2.mem ((cfg0.win w).arr.view.loc (c : Thread nD τ)) = finalA m ρ c w) ∧ Kept m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      iintro Hu
      ihave H := (u₀_split (F := F)) $$ Hu
      icases H with ⟨HP, HX⟩
      imod (fund_cells m) $$ HX with HG
      imodintro
      isplitl [HP] <;> iassumption)
    (hglob := alloc_all m)
    (hA := fun _ _ => rfl) (hpf := fun _ k => k.elim0)
    (X := start m) (Y := kept m) (Z := fun _ => iprop(emp))
    (hX := start_intro m ρ) (hin := phi_intro m ρ) (hout := phi_exit m ρ)
    (QY := Kept m)
    (hY := kept_read m)
    (hQ := fun _ h hs => ⟨fun c => ⟨(h c).1, (h c).2.2⟩, sem_eq_zero hs fun c => (h c).2.2.1⟩)

/-- The scales are staged whole. -/
theorem sxAt_eq (c : Dev nD) : sxAt m c = m ((c : Thread nD τ).loc main_arg2) :=
  Memref.read_access_unit_zero (Elt F) main_arg2 (funext fun a => by fin_cases a; decide) (fun a => by fin_cases a; decide) _
theorem swAt_eq (c : Dev nD) : swAt m c = m ((c : Thread nD τ).loc main_arg3) :=
  Memref.read_access_unit_zero (Elt F) main_arg3 (funext fun a => by fin_cases a; decide) (fun a => by fin_cases a; decide) _

theorem finalA_sx (c : Dev nD) : finalA m ρ c (0 : Fin 3) = m ((c : Thread nD τ).loc main_arg2) :=
  (dats (F := F) m ρ 0 c).arrAt_in (0 : Fin 3) rfl _
theorem finalA_sw (c : Dev nD) : finalA m ρ c (1 : Fin 3) = m ((c : Thread nD τ).loc main_arg3) :=
  (dats (F := F) m ρ 0 c).arrAt_in (1 : Fin 3) rfl _
theorem finalA_out (c : Dev nD) : finalA m ρ c (2 : Fin 3) = outAt m c := by
  have h : (win0_2.blk (0 : Fin 1)).view.read (Elt F) (finalA m ρ c (2 : Fin 3)) = outAt m c := by
    unfold finalA
    rw [show cfg0.N = (t₀ : Fin cfg0.N).val + 1 from N_one, (dats m ρ 0 c).arrAt_succ (2 : Fin 3) t₀]
    rw [flush0_2 t₀, if_pos rfl]
    exact View.read_write_univ _ _
  exact (Memref.read_access_unit_zero (Elt F) main_v1 (funext fun a => by fin_cases a <;> decide) (fun a => by fin_cases a <;> decide) _).symm.trans h

/-- Each device's result array ends at the kernel's result and its four arguments as they were. -/
theorem run_main : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c =>
    ⟨((h.1 c).1 (2 : Fin 3)).trans (finalA_out m ρ c), (h.1 c).2.2.1, (h.1 c).2.2.2,
      ((h.1 c).1 (0 : Fin 3)).trans (finalA_sx m ρ c), ((h.1 c).1 (1 : Fin 3)).trans (finalA_sw m ρ c)⟩, h.2⟩) (run_region m ρ)

end Cert.Exchange
-- ==== Proof.Value.lean ====
/-
# The value: the kernel's result over the extended reals is a row block of the plain product, scaled
-/
module

public import proofs.«01_k».proof.Proof.Launch
public import proofs.«01_k».proof.Proof.Gen.ReferenceIdeal
public import Idealize.ShloMosaic.Lib.Pointwise

@[expose] public section

set_option maxRecDepth 16384

noncomputable section

namespace Cert.Exchange

open Cert.KernelIdeal Cert.KernelIdeal.Gen Cert.Slots

open Idealize.ShloMosaic
open Idealize.ShloMosaic.TcCoe

/-! ## The blocks by coordinates -/

variable (m : (ℓ : Loc nD τ sig) → Buf (Elt Ideal) ℓ)

theorem row_lt {n : ℕ} (h : n < 4) (a : Fin 1024) : 1024 * n + a.val < 4096 := by have := a.isLt; omega

/-- Place `a` of block `n` among four of 1024. -/
def at4 (n : Fin 4) (a : Fin 1024) : Fin 4096 := ⟨1024 * n.val + a.val, row_lt n.isLt a⟩

/-- A block of `x` a device converts is a row block of its columns of `x`, -/
theorem xBlk_apply (c : Dev nD) (r t : Fin 4) (h : (c.val + r.val) % 4 = t.val) (a k : Fin 1024) :
    xBlk m c r (ix2 a k) = m ((c : Thread nD τ).loc main_arg0) (ix2 (at4 t a) k) := by
  show m ((c : Thread nD τ).loc main_arg0) ((Rect.unit (s := S4096x1024) (k0_off1 c (BitVec.ofNat 32 r.val)) S1024x1024.size (k0_off1_inb c r)).emb (ix2 a k)) = _
  refine congrArg (m ((c : Thread nD τ).loc main_arg0)) (funext fun b => Fin.ext ?_)
  show k0_off1 c (BitVec.ofNat 32 r.val) b + 1 * ((ix2 a k : S1024x1024.Idx) b).val = _
  rw [k0_off1_eq]
  fin_cases b
  · show 1024 * ((c.val + r.val) % 4) + 1 * a.val = 1024 * t.val + a.val
    rw [h, Nat.one_mul]
  · show 0 + 1 * k.val = k.val
    omega
/-- and a block of `w` it multiplies by is a row block of `w`. -/
theorem wBlk_apply (c : Dev nD) (r t : Fin 4) (h : ((c.val + 4) - r.val) % 4 = t.val) (k : Fin 1024) (b : Fin 2048) :
    wBlk m c r (ix2 k b) = m ((c : Thread nD τ).loc main_arg1) (ix2 (at4 t k) b) := by
  show m ((c : Thread nD τ).loc main_arg1) ((Rect.unit (s := S4096x2048) (k0_off2 c (BitVec.ofNat 32 r.val)) S1024x2048.size (k0_off2_inb c r)).emb (ix2 k b)) = _
  refine congrArg (m ((c : Thread nD τ).loc main_arg1)) (funext fun d => Fin.ext ?_)
  show k0_off2 c (BitVec.ofNat 32 r.val) d + 1 * ((ix2 k b : S1024x2048.Idx) d).val = _
  rw [k0_off2_eq]
  fin_cases d
  · show 1024 * (((c.val + 4) - r.val) % 4) + 1 * k.val = 1024 * t.val + k.val
    rw [h, Nat.one_mul]
  · show 0 + 1 * b.val = b.val
    omega

/-- A product at a place is the sum over the shared 1024. -/
theorem prodBlk_apply (u : S1024x1024.Idx → Elt Ideal .fp8e4m3) (w : S1024x2048.Idx → Elt Ideal .f32) (a : Fin 1024) (b : Fin 2048) :
    prodBlk u w (ix2 a b) = ∑ k : Fin 1024, u (ix2 a k) * w (ix2 k b) := by
  unfold prodBlk
  pointwise

/-! ## The sums -/

/-- A sum over 4096 by blocks of 1024, -/
theorem sum_at4 (f : Fin 4096 → EReal) : ∑ j, f j = ∑ n : Fin 4, ∑ k : Fin 1024, f (at4 n k) := by
  rw [← Fintype.sum_prod_type' (fun (n : Fin 4) (k : Fin 1024) => f (at4 n k))]
  refine (Fintype.sum_equiv (finProdFinEquiv (m := 4) (n := 1024)) (fun p => f (at4 p.1 p.2)) f fun p => congrArg f (Fin.ext ?_)).symm
  show 1024 * p.1.val + p.2.val = p.2.val + 1024 * p.1.val
  omega

/-- and a sum over the four devices in the order device `c` meets them: itself, then lanes 0, 2 and 1. -/
theorem sum_lanes (c : Dev nD) (f : Dev nD → EReal) : ∑ d, f d = f c + f (behind 0 c) + f (behind 2 c) + f (behind 1 c) := by
  have h : (∑ d : Fin 4, f d) = f 0 + f 1 + f 2 + f 3 := Fin.sum_univ_four f
  refine h.trans ?_
  have hc : c = 0 ∨ c = 1 ∨ c = 2 ∨ c = 3 := by revert c; decide
  rcases hc with rfl | rfl | rfl | rfl
  · show f 0 + f 1 + f 2 + f 3 = f 0 + f 3 + f 1 + f 2
    abel
  · show f 0 + f 1 + f 2 + f 3 = f 1 + f 0 + f 2 + f 3
    abel
  · show f 0 + f 1 + f 2 + f 3 = f 2 + f 1 + f 3 + f 0
    abel
  · show f 0 + f 1 + f 2 + f 3 = f 3 + f 2 + f 0 + f 1
    abel

/-! ## The result -/

variable (A : Cert.ReferenceIdeal.S4096x4096.Idx → EReal) (W : S4096x2048.Idx → EReal) (p q : S1.Idx → EReal)

/-- The memory holds column block `c` of `A` as device `c`'s `x`, and `W` and the scales on every device. -/
structure Holds : Prop where
  x : ∀ c : Dev nD, m ((c : Thread nD τ).loc main_arg0) = Layout.block ⟨2, ![4096, 1024]⟩ ⟨2, ![4096, 4096]⟩ 1 4 c A
  w : ∀ c : Dev nD, m ((c : Thread nD τ).loc main_arg1) = W
  sx : ∀ c : Dev nD, m ((c : Thread nD τ).loc main_arg2) = p
  sw : ∀ c : Dev nD, m ((c : Thread nD τ).loc main_arg3) = q

/-- Device `d`'s share of the product at a place of row block `c`. -/
def part (c d : Dev nD) (a : Fin 1024) (b : Fin 2048) : EReal :=
  ∑ k : Fin 1024, A (ix2 (at4 c a) (at4 d k)) * W (ix2 (at4 d k) b)

variable {m A W p q}

/-- The block converted on `d` times the block of `w` read on `c` is `d`'s share of row block `c`. -/
theorem prod_part (hm : Holds m A W p q) {c d : Dev nD} {r s : Fin 4} (hr : (d.val + r.val) % 4 = c.val) (hs : ((c.val + 4) - s.val) % 4 = d.val)
    (a : Fin 1024) (b : Fin 2048) : prodBlk (x8Blk m d r) (wBlk m c s) (ix2 a b) = part A W c d a b := by
  rw [prodBlk_apply]
  unfold part
  refine Finset.sum_congr rfl fun k _ => ?_
  have h1 : x8Blk m d r (ix2 a k) = A (ix2 (at4 c a) (at4 d k)) := by
    show xBlk m d r (ix2 a k) = _
    rw [xBlk_apply m d r c hr, hm.x]
    refine congrArg A (funext fun e => Fin.ext ?_)
    fin_cases e
    · rfl
    · show d.val * 1024 + k.val = 1024 * d.val + k.val
      omega
  have h2 : wBlk m c s (ix2 k b) = W (ix2 (at4 d k) b) := by rw [wBlk_apply m c s d hs, hm.w]
  rw [h1, h2]

theorem meets_own (c : Dev nD) : (c.val + (0 : Fin 4).val) % 4 = c.val ∧ ((c.val + 4) - (0 : Fin 4).val) % 4 = c.val := by revert c; decide
theorem meets_0 (c : Dev nD) : ((behind 0 c).val + (1 : Fin 4).val) % 4 = c.val ∧ ((c.val + 4) - (1 : Fin 4).val) % 4 = (behind 0 c).val := by revert c; decide
theorem meets_2 (c : Dev nD) : ((behind 2 c).val + (3 : Fin 4).val) % 4 = c.val ∧ ((c.val + 4) - (3 : Fin 4).val) % 4 = (behind 2 c).val := by revert c; decide
theorem meets_1 (c : Dev nD) : ((behind 1 c).val + (2 : Fin 4).val) % 4 = c.val ∧ ((c.val + 4) - (2 : Fin 4).val) % 4 = (behind 1 c).val := by revert c; decide

/-- The kernel's sum is the product of the whole arrays. -/
theorem acc_eq (hm : Holds m A W p q) (c : Dev nD) (a : Fin 1024) (b : Fin 2048) :
    acc3 m c (ix2 a b) = ∑ j : Fin 4096, A (ix2 (at4 c a) j) * W (ix2 j b) := by
  rw [sum_at4]
  have h := sum_lanes c (fun d => part A W c d a b)
  refine Eq.trans ?_ h.symm
  unfold acc3 acc2 acc1 acc0
  show prodBlk (x8Blk m c 0) (wBlk m c 0) (ix2 a b) + prodBlk (x8Blk m (behind 0 c) 1) (wBlk m c 1) (ix2 a b)
    + prodBlk (x8Blk m (behind 2 c) 3) (wBlk m c 3) (ix2 a b) + prodBlk (x8Blk m (behind 1 c) 2) (wBlk m c 2) (ix2 a b) = _
  rw [prod_part hm (meets_own c).1 (meets_own c).2, prod_part hm (meets_0 c).1 (meets_0 c).2,
    prod_part hm (meets_2 c).1 (meets_2 c).2, prod_part hm (meets_1 c).1 (meets_1 c).2]

/-- The reference's value: the product of the whole arrays, times the product of the scales. -/
def refOut (A : Cert.ReferenceIdeal.S4096x4096.Idx → EReal) (W : S4096x2048.Idx → EReal) (p q : S1.Idx → EReal) : S4096x2048.Idx → EReal :=
  fun i => (∑ j : Fin 4096, A (ix2 (i 0) j) * W (ix2 j (i 1))) * (p (ix1 0) * q (ix1 0))

/-- A device's result is its row block of the reference's value. -/
theorem outAt_eq (hm : Holds m A W p q) (c : Dev nD) :
    outAt m c = Layout.block ⟨2, ![1024, 2048]⟩ ⟨2, ![4096, 2048]⟩ 0 4 c (refOut A W p q) := by
  funext i
  obtain ⟨a, b, rfl⟩ : ∃ (a : Fin 1024) (b : Fin 2048), i = ix2 a b := ⟨i 0, i 1, eq_ix2 i⟩
  have h1 : outAt m c (ix2 a b) = acc3 m c (ix2 a b) * (p (ix1 0) * q (ix1 0)) := by
    unfold outAt result k0_pay1
    rw [sxAt_eq, swAt_eq, hm.sx, hm.sw]
    have ho : (one0 : S1.Idx) = ix1 0 := by funext e; fin_cases e; rfl
    rw [ho]
    rfl
  rw [h1, acc_eq hm, Layout.block_apply]
  unfold refOut
  have e0 : ∀ h : Layout.Tiles ⟨2, ![1024, 2048]⟩ ⟨2, ![4096, 2048]⟩ 0 4, h.idx c (ix2 a b : S1024x2048.Idx) = (ix2 (at4 c a) b : S4096x2048.Idx) := fun h => by
    funext e
    refine Fin.ext ?_
    fin_cases e
    · show c.val * 1024 + a.val = 1024 * c.val + a.val
      omega
    · rfl
  rw [e0]
  rfl

end Cert.Exchange
-- ==== Proof.Ref.lean ====
/-
# The reference's run, its result as the plain sum
-/
module

public import proofs.«01_k».proof.Proof.Value
public import proofs.«01_k».proof.Proof.Gen.ReferenceIdeal.Run

@[expose] public section

set_option maxRecDepth 16384

noncomputable section

namespace Cert.RefSide

open Cert.ReferenceIdeal Cert.ReferenceIdeal.Gen Cert.Exchange

open Idealize.ShloMosaic
open Idealize.ShloMosaic.TcCoe
open Idealize.SL.Sem

/-- The reference's operations, read at an index. -/
theorem ops_value (A : S4096x4096.Idx → EReal) (W : S4096x2048.Idx → EReal) (p q : S1.Idx → EReal) :
    (mulf (F := Ideal) (φ := .f32) (Host.dotGeneral (F := Ideal) (φ₁ := .f32) (φ₂ := .f32) dot_S4096x4096_S4096x2048_S4096x2048_1_0_0_1_n_n none A W)
        (broadcastInDim S4096x2048 ![0, 1] bcast_S1x1_S4096x2048_0_1 (broadcastInDim S1x1 ![1] bcast_S1_S1x1_1 (mulf (F := Ideal) (φ := .f32) p q)))
      : S4096x2048.Idx → EReal) = refOut A W p q := by
  funext i
  obtain ⟨a, b, rfl⟩ : ∃ (a : Fin 4096) (b : Fin 2048), i = ix2 a b := ⟨i 0, i 1, eq_ix2 i⟩
  unfold refOut
  pointwise

variable (m : (ℓ : Loc nD τ sig) → Buf (Elt Ideal) ℓ) (ρ : Dev nD → PrngReg)

/-- The reference ends with its value in the result and its arguments as they were. -/
theorem run_ref : θ_run defs (onTc (τ := τ) (main (F := Ideal))) ⟨m, fun _ => 0, ρ⟩ fun r =>
    r.2.mem (((0 : Dev nD).tc : Thread nD τ).loc main_v4)
        = refOut (m (((0 : Dev nD).tc : Thread nD τ).loc main_arg0)) (m (((0 : Dev nD).tc : Thread nD τ).loc main_arg1))
            (m (((0 : Dev nD).tc : Thread nD τ).loc main_arg2)) (m (((0 : Dev nD).tc : Thread nD τ).loc main_arg3))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3) :=
  (θ_run defs _ _).mono (fun _ h => ⟨(h 0).1.trans (ops_value _ _ _ _), (h 0).2⟩) (Value.run (F := Ideal) m ρ)

end Cert.RefSide
-- ==== Proof.Twin.lean ====
/-
# The kernel and its idealisation are one text

The two programs are written alike, each over its own copies of the definitions. This file states that what they run
is the same: the label table and the program of `main`. A run proved of one is then a run of the other.
-/
module

public import proofs.«01_k».proof.Proof.Gen.Kernel
public import proofs.«01_k».proof.Proof.Gen.KernelIdeal
public import Idealize.ShloMosaic.Adequacy

@[expose] public section

set_option maxRecDepth 16384

noncomputable section

namespace Cert.Twin

open Cert.Kernel.Gen Cert.KernelIdeal.Gen
open Idealize.ShloMosaic Idealize.SL.Sem

variable {F : FTy → Type} [FloatOps F]

/-- The two tables of kernel bodies agree: they have one label, and its body is the same program. -/
theorem bodies_eq : Cert.Kernel.defs₀ (F := F) = Cert.KernelIdeal.defs₀ (F := F) := by
  refine congrArg Defs.onTc (funext fun l => funext fun a => ?_)
  match l, a with
  | ⟨0, _⟩, (_, _) => rfl

/-- So do the tables with the call's pipeline added, -/
theorem defs_eq : Cert.Kernel.defs (F := F) = Cert.KernelIdeal.defs (F := F) :=
  congrArg (Pipeline.defs Cert.KernelIdeal.pcfgs) bodies_eq

/-- and the programs of the devices. -/
theorem main_eq : Cert.Kernel.main (F := F) = Cert.KernelIdeal.main (F := F) := rfl

/-- What every run of the idealised kernel ends in, every run of the kernel ends in. -/
theorem run_of_ideal (s) (Q) (h : θ_run (Cert.KernelIdeal.defs (F := F)) (onTc (τ := Cert.KernelIdeal.τ) Cert.KernelIdeal.main) s Q) :
    θ_run (Cert.Kernel.defs (F := F)) (onTc (τ := Cert.Kernel.τ) Cert.Kernel.main) s Q := by
  rw [defs_eq, main_eq]
  exact h

end Cert.Twin

end
-- ==== Proof.lean ====
/-
# The five claims of the certificate

The kernel's run is proved once, for any float values (`Cert.Exchange.run_main`), and the reference's run once
(`Cert.RefSide.run_ref`, `Cert.ReferenceIdeal.Value.run`); this file reads each claim off them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref
public import proofs.«01_k».proof.Proof.Twin
public import Idealize.ShloMosaic.Adequacy
public import Idealize.ShloMosaic.Init

@[expose] public section

noncomputable section

namespace Cert.Proof

open Idealize.ShloMosaic Idealize.SL.Sem

/-- The kernel over bit patterns terminates, its arguments as they were and its counters at zero. -/
theorem frame_kernel : Cert.quiescent_Kernel := fun m ρ _ => Cert.Twin.run_of_ideal _ _ <|
  (θ_run Cert.KernelIdeal.defs _ _).mono (fun _ h => ⟨fun c => (h.1 c).2, h.2⟩) (Cert.Exchange.run_main (F := Bits) m ρ)

/-- So does the kernel over the extended reals, -/
theorem frame_kernel_ideal : Cert.quiescent_KernelIdeal := fun m ρ _ =>
  (θ_run Cert.KernelIdeal.defs _ _).mono (fun _ h => ⟨fun c => (h.1 c).2, h.2⟩) (Cert.Exchange.run_main (F := Ideal) m ρ)

/-- and the reference, which has no semaphore. -/
theorem frame_reference_ideal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Each device's result is its row block of the reference's result. -/
theorem value : Cert.algebraic_KernelIdeal_ReferenceIdeal := fun m ρ m' ρ' _ hagree => by
  refine ⟨_, ?_, Cert.RefSide.run_ref m' ρ'⟩
  refine (θ_run Cert.KernelIdeal.defs _ _).mono (fun _ h c => ⟨(h.1 c).1.trans ?_, (h.1 c).2⟩) (Cert.Exchange.run_main (F := Ideal) m ρ)
  exact Cert.Exchange.outAt_eq ⟨fun c => (hagree c).1, fun c => (hagree c).2.1, fun c => (hagree c).2.2.1, fun c => (hagree c).2.2.2⟩ c

/-- The certificate. -/
theorem claim : Cert.Claim := ⟨Cert.Kernel.Gen.facts, Cert.KernelIdeal.Gen.facts, Cert.ReferenceIdeal.Gen.facts,
  frame_kernel, frame_kernel_ideal, frame_reference_ideal, trivial, value⟩

end Cert.Proof

end
